-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_and_weights [hPre_lens_and_weights : Cert.Pre_lens_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_lens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_lens_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_and_weights [hPre_lens_and_weights : Cert.Pre_lens_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_lens_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_lens_and_weights [hKernelIdeal : Cert.KernelIdeal.Facts] [hPre_lens_and_weights : Cert.Pre_lens_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lens_and_weights [hReferenceIdeal : Cert.ReferenceIdeal.Facts] [hPre_lens_and_weights : Cert.Pre_lens_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_lens_and_weights [hKernelIdeal : Cert.KernelIdeal.Facts] [hReferenceIdeal : Cert.ReferenceIdeal.Facts] [hPre_lens_and_weights : Cert.Pre_lens_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lens_and_weights : Cert.Pre_lens_and_weights.Facts),
    quiescent_Kernel (hKernel := hKernel)
    ∧ quiescent_KernelIdeal (hKernelIdeal := hKernelIdeal)
    ∧ quiescent_KernelIdeal_pre_lens_and_weights (hKernelIdeal := hKernelIdeal) (hPre_lens_and_weights := hPre_lens_and_weights)
    ∧ quiescent_ReferenceIdeal (hReferenceIdeal := hReferenceIdeal)
    ∧ quiescent_ReferenceIdeal_pre_lens_and_weights (hReferenceIdeal := hReferenceIdeal) (hPre_lens_and_weights := hPre_lens_and_weights)
    ∧ preserves_Kernel_KernelIdeal
    ∧ algebraic_KernelIdeal_ReferenceIdeal_pre_lens_and_weights (hKernelIdeal := hKernelIdeal) (hReferenceIdeal := hReferenceIdeal) (hPre_lens_and_weights := hPre_lens_and_weights)
-- ==== Pre_lens_and_weights.lean ====
abbrev S512x4x64 : Shape := ⟨3, ![512, 4, 64]⟩
abbrev S64x64 : Shape := ⟨2, ![64, 64]⟩
abbrev S64 : Shape := ⟨1, ![64]⟩
abbrev S4 : Shape := ⟨1, ![4]⟩
abbrev S_ : Shape := ⟨0, ![]⟩

class Facts : Prop where
  bcast_S_S4 : S_.BroadcastsInDim S4 (![] : Fin 0 → Fin S4.rank)
  bcast_S_S64 : S_.BroadcastsInDim S64 (![] : Fin 0 → Fin S64.rank)

variable [Facts]

def fn {F : FTy → Type} [FloatOps F] (main_arg0 : FVec F S512x4x64 .f32) (main_arg1 : FVec F S512x4x64 .f32) (main_arg2 : FVec F S64x64 .f32) (main_arg3 : FVec F S64x64 .f32) (main_arg4 : FVec F S64 .f32) (main_arg5 : IVec S4 32) (main_arg6 : IVec S4 32) : IVec S4 1 × IVec S64 1 :=
  let main_c : IVec S_ 32 := constantI S_ 32 1#32
  let main_v0 : IVec S4 32 := broadcastInDim S4 ![] bcast_S_S4 main_c
  let main_v1 : IVec S4 1 := cmpi .sge main_arg5 main_v0
  let main_v2 : FVec F S64 .f32 := Host.absf main_arg4
  let main_cst : FVec F S_ .f32 := constant S_ .f32 0x7F800000#32
  let main_v3 : FVec F S64 .f32 := broadcastInDim S64 ![] bcast_S_S64 main_cst
  let main_v4 : IVec S64 1 := cmpf .olt main_v2 main_v3
  (main_v1, main_v4)
-- ==== Kernel.lean ====
abbrev S512x4x64 : Shape := ⟨3, ![512, 4, 64]⟩
abbrev S64x64 : Shape := ⟨2, ![64, 64]⟩
abbrev S64 : Shape := ⟨1, ![64]⟩
abbrev S4 : Shape := ⟨1, ![4]⟩
abbrev S4x512x64 : Shape := ⟨3, ![4, 512, 64]⟩
abbrev S4x128x256 : Shape := ⟨3, ![4, 128, 256]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x4x64 : Shape := ⟨4, ![1, 64, 4, 64]⟩
abbrev S64x256 : Shape := ⟨2, ![64, 256]⟩
abbrev S64x1 : Shape := ⟨2, ![64, 1]⟩
abbrev S1x64x1x1 : Shape := ⟨4, ![1, 64, 1, 1]⟩
abbrev S4x64x4x1 : Shape := ⟨4, ![4, 64, 4, 1]⟩
abbrev S256x4 : Shape := ⟨2, ![256, 4]⟩
abbrev S512x2048 : Shape := ⟨2, ![512, 2048]⟩
abbrev S4x128x64 : Shape := ⟨3, ![4, 128, 64]⟩
abbrev S128x2048 : Shape := ⟨2, ![128, 2048]⟩
abbrev S512x256 : Shape := ⟨2, ![512, 256]⟩
abbrev S64x2048 : Shape := ⟨2, ![64, 2048]⟩
abbrev S2048x32 : Shape := ⟨2, ![2048, 32]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S2x256 : Shape := ⟨2, ![2, 256]⟩
abbrev S1 : Shape := ⟨1, ![1]⟩
abbrev S1x128x64 : Shape := ⟨3, ![1, 128, 64]⟩
abbrev S128x64 : Shape := ⟨2, ![128, 64]⟩
abbrev S128x512 : Shape := ⟨2, ![128, 512]⟩
abbrev S128x1024 : Shape := ⟨2, ![128, 1024]⟩
abbrev S1x2048 : Shape := ⟨2, ![1, 2048]⟩
abbrev S2048 : Shape := ⟨1, ![2048]⟩
abbrev S128x32 : Shape := ⟨2, ![128, 32]⟩
abbrev S128 : Shape := ⟨1, ![128]⟩
abbrev S128x1 : Shape := ⟨2, ![128, 1]⟩

abbrev nBuf : Space → Nat
  | .hbm => 40
  | .vmem => 12
  | .smem => 2
  | _ => 0

abbrev bufTy : (tb : Table) → Fin (tcTables nBuf tb) → BufTy
  | .hbm, ⟨0, _⟩ => ⟨S512x4x64, .f32⟩
  | .hbm, ⟨1, _⟩ => ⟨S512x4x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S4x512x64, .f32⟩
  | .hbm, ⟨6, _⟩ => ⟨S4x128x256, .f32⟩
  | .hbm, ⟨7, _⟩ => ⟨S4x512x64, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S1x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S1x64x1x64, .f32⟩
  | .hbm, ⟨22, _⟩ => ⟨S1x64x4x64, .f32⟩
  | .hbm, ⟨23, _⟩ => ⟨S64x256, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S64x1, .f32⟩
  | .hbm, ⟨32, _⟩ => ⟨S4x1x4x1, .f32⟩
  | .hbm, ⟨33, _⟩ => ⟨S1x64x1x1, .f32⟩
  | .hbm, ⟨34, _⟩ => ⟨S4x64x4x1, .f32⟩
  | .hbm, ⟨35, _⟩ => ⟨S4x64x4x1, .f32⟩
  | .hbm, ⟨36, _⟩ => ⟨S4x64x4x1, .f32⟩
  | .hbm, ⟨37, _⟩ => ⟨S256x4, .f32⟩
  | .hbm, ⟨38, _⟩ => ⟨S256x4, .bf16⟩
  | .hbm, ⟨39, _⟩ => ⟨S512x2048, .f32⟩
  | .local _ .vmem, ⟨0, _⟩ => ⟨S4x128x256, .f32⟩
  | .local _ .vmem, ⟨1, _⟩ => ⟨S4x128x64, .f32⟩
  | .local _ .vmem, ⟨2, _⟩ => ⟨S4x128x64, .f32⟩
  | .local _ .vmem, ⟨3, _⟩ => ⟨S256x256, .f32⟩
  | .local _ .vmem, ⟨4, _⟩ => ⟨S64x256, .f32⟩
  | .local _ .vmem, ⟨5, _⟩ => ⟨S256x4, .bf16⟩
  | .local _ .vmem, ⟨6, _⟩ => ⟨S128x2048, .f32⟩
  | .local _ .vmem, ⟨7, _⟩ => ⟨S128x2048, .f32⟩
  | .local _ .vmem, ⟨8, _⟩ => ⟨S512x256, .bf16⟩
  | .local _ .vmem, ⟨9, _⟩ => ⟨S64x2048, .bf16⟩
  | .local _ .vmem, ⟨10, _⟩ => ⟨S2048x32, .bf16⟩
  | .local _ .vmem, ⟨11, _⟩ => ⟨S128x2048, .bf16⟩
  | .local _ .smem, ⟨0, _⟩ => ⟨S4, .i32⟩
  | .local _ .smem, ⟨1, _⟩ => ⟨S4, .i32⟩
  | _, _ => ⟨S512x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S512x4x64 : Shape := ⟨3, ![512, 4, 64]⟩
abbrev S64x64 : Shape := ⟨2, ![64, 64]⟩
abbrev S64 : Shape := ⟨1, ![64]⟩
abbrev S4 : Shape := ⟨1, ![4]⟩
abbrev S512 : Shape := ⟨1, ![512]⟩
abbrev S512x1 : Shape := ⟨2, ![512, 1]⟩
abbrev S1x4 : Shape := ⟨2, ![1, 4]⟩
abbrev S512x4 : Shape := ⟨2, ![512, 4]⟩
abbrev S512x4x1 : Shape := ⟨3, ![512, 4, 1]⟩
abbrev S512x1x4x64 : Shape := ⟨4, ![512, 1, 4, 64]⟩
abbrev S1x512x4x64 : Shape := ⟨4, ![1, 512, 4, 64]⟩
abbrev S512x512x4x64 : Shape := ⟨4, ![512, 512, 4, 64]⟩
abbrev S512x512x4 : Shape := ⟨3, ![512, 512, 4]⟩
abbrev S1x512x4 : Shape := ⟨3, ![1, 512, 4]⟩
abbrev S_ : Shape := ⟨0, ![]⟩
abbrev S512x1x4 : Shape := ⟨3, ![512, 1, 4]⟩
abbrev S512x4x512 : Shape := ⟨3, ![512, 4, 512]⟩
abbrev S512x2048 : Shape := ⟨2, ![512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S512x4x64, .f32⟩
  | .hbm, ⟨1, _⟩ => ⟨S512x4x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S4, .i32⟩
  | .hbm, ⟨6, _⟩ => ⟨S4, .i32⟩
  | .hbm, ⟨7, _⟩ => ⟨S512, .i32⟩
  | .hbm, ⟨8, _⟩ => ⟨S512x1, .i32⟩
  | .hbm, ⟨9, _⟩ => ⟨S1x4, .i32⟩
  | .hbm, ⟨10, _⟩ => ⟨S512x4, .i32⟩
  | .hbm, ⟨11, _⟩ => ⟨S512x4, .i32⟩
  | .hbm, ⟨12, _⟩ => ⟨S512x4, .i1⟩
  | .hbm, ⟨13, _⟩ => ⟨S512, .i32⟩
  | .hbm, ⟨14, _⟩ => ⟨S512x1, .i32⟩
  | .hbm, ⟨15, _⟩ => ⟨S1x4, .i32⟩
  | .hbm, ⟨16, _⟩ => ⟨S512x4, .i32⟩
  | .hbm, ⟨17, _⟩ => ⟨S512x4, .i32⟩
  | .hbm, ⟨18, _⟩ => ⟨S512x4, .i1⟩
  | .hbm, ⟨19, _⟩ => ⟨S512x4x64, .f32⟩
  | .hbm, ⟨20, _⟩ => ⟨S512x4x1, .i1⟩
  | .hbm, ⟨21, _⟩ => ⟨S512x4x1, .f32⟩
  | .hbm, ⟨22, _⟩ => ⟨S512x4x64, .f32⟩
  | .hbm, ⟨23, _⟩ => ⟨S512x4x64, .f32⟩
  | .hbm, ⟨24, _⟩ => ⟨S512x4x64, .f32⟩
  | .hbm, ⟨25, _⟩ => ⟨S512x4x1, .i1⟩
  | .hbm, ⟨26, _⟩ => ⟨S512x4x1, .f32⟩
  | .hbm, ⟨27, _⟩ => ⟨S512x4x64, .f32⟩
  | .hbm, ⟨28, _⟩ => ⟨S512x4x64, .f32⟩
  | .hbm, ⟨29, _⟩ => ⟨S512x1x4x64, .f32⟩
  | .hbm, ⟨30, _⟩ => ⟨S1x512x4x64, .f32⟩
  | .hbm, ⟨31, _⟩ => ⟨S512x512x4x64, .f32⟩
  | .hbm, ⟨32, _⟩ => ⟨S512x512x4x64, .f32⟩
  | .hbm, ⟨33, _⟩ => ⟨S512x512x4x64, .f32⟩
  | .hbm, ⟨34, _⟩ => ⟨S512x512x4x64, .f32⟩
  | .hbm, ⟨35, _⟩ => ⟨S512x512x4, .f32⟩
  | .hbm, ⟨36, _⟩ => ⟨S1x512x4, .i1⟩
  | .hbm, ⟨37, _⟩ => ⟨S_, .f32⟩
  | .hbm, ⟨38, _⟩ => ⟨S_, .f32⟩
  | .hbm, ⟨39, _⟩ => ⟨S512x512x4, .i1⟩
  | .hbm, ⟨40, _⟩ => ⟨S512x512x4, .f32⟩
  | .hbm, ⟨41, _⟩ => ⟨S512x512x4, .f32⟩
  | .hbm, ⟨42, _⟩ => ⟨S_, .f32⟩
  | .hbm, ⟨43, _⟩ => ⟨S512x4, .f32⟩
  | .hbm, ⟨44, _⟩ => ⟨S_, .f32⟩
  | .hbm, ⟨45, _⟩ => ⟨S512x4, .f32⟩
  | .hbm, ⟨46, _⟩ => ⟨S512x4, .f32⟩
  | .hbm, ⟨47, _⟩ => ⟨S512x1x4, .f32⟩
  | .hbm, ⟨48, _⟩ => ⟨S512x512x4, .f32⟩
  | .hbm, ⟨49, _⟩ => ⟨S512x512x4, .f32⟩
  | .hbm, ⟨50, _⟩ => ⟨S512x512x4, .f32⟩
  | .hbm, ⟨51, _⟩ => ⟨S_, .f32⟩
  | .hbm, ⟨52, _⟩ => ⟨S512x4, .f32⟩
  | .hbm, ⟨53, _⟩ => ⟨S512x1x4, .f32⟩
  | .hbm, ⟨54, _⟩ => ⟨S512x512x4, .f32⟩
  | .hbm, ⟨55, _⟩ => ⟨S512x512x4, .f32⟩
  | .hbm, ⟨56, _⟩ => ⟨S512x4x512, .f32⟩
  | .hbm, ⟨57, _⟩ => ⟨S512x4x1, .i1⟩
  | .hbm, ⟨58, _⟩ => ⟨S512x4x1, .f32⟩
  | .hbm, ⟨59, _⟩ => ⟨S512x4x512, .f32⟩
  | .hbm, ⟨60, _⟩ => ⟨S512x4x512, .f32⟩
  | .hbm, ⟨61, _⟩ => ⟨S512x2048, .f32⟩
  | _, _ => ⟨S512x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Body.lean ====
/-
  The kernel body, written once more as a short program.

  The printed body is straight-line code: 512 rows are copied one after the other, and each of the four batch tiles
  holds sixteen conditional groups. Here the same program is written with the row number, the batch number and the
  group number as parameters. `body_eq` says that the printed body IS this program.
-/
module

public import proofs.«01_k».proof.Proof.Gen.KernelIdeal.Launch

@[expose] public section

noncomputable section

namespace Cert.KernelIdeal.Attn

open Idealize.ShloMosaic Idealize.SL.Sem

variable {F : FTy → Type} [FloatOps F]

/-- The body's memory references: the two tables of lengths, the five input blocks, the output block, the four scratch
    buffers; each a whole buffer. -/
structure Refs where
  a1 : Memref sig .tc .smem S4 .i32
  h1 : a1.IsWhole
  a2 : Memref sig .tc .smem S4 .i32
  h2 : a2.IsWhole
  a3 : Memref sig .tc .vmem S4x128x256 .f32
  h3 : a3.IsWhole
  a4 : Memref sig .tc .vmem S4x128x64 .f32
  h4 : a4.IsWhole
  a5 : Memref sig .tc .vmem S256x256 .f32
  h5 : a5.IsWhole
  a6 : Memref sig .tc .vmem S64x256 .f32
  h6 : a6.IsWhole
  a7 : Memref sig .tc .vmem S256x4 .bf16
  h7 : a7.IsWhole
  a8 : Memref sig .tc .vmem S128x2048 .f32
  h8 : a8.IsWhole
  a9 : Memref sig .tc .vmem S512x256 .bf16
  h9 : a9.IsWhole
  a10 : Memref sig .tc .vmem S64x2048 .bf16
  h10 : a10.IsWhole
  a11 : Memref sig .tc .vmem S2048x32 .bf16
  h11 : a11.IsWhole
  a12 : Memref sig .tc .vmem S128x2048 .bf16
  h12 : a12.IsWhole

/-! ## Places -/

/-- A rank-2 window lies inside its buffer when it does on both axes. -/
theorem inb2 {d sz : Fin 2 → ℕ} {o0 o1 : ℕ} (h0 : o0 + sz 0 ≤ d 0) (h1 : o1 + sz 1 ≤ d 1) :
    ∀ a, (![o0, o1] : Fin 2 → ℕ) a + sz a ≤ d a := by
  intro a; match a with
  | 0 => exact h0
  | 1 => exact h1

/-- A rank-3 window lies inside its buffer when it does on all three axes. -/
theorem inb3 {d sz : Fin 3 → ℕ} {o0 o1 o2 : ℕ} (h0 : o0 + sz 0 ≤ d 0) (h1 : o1 + sz 1 ≤ d 1) (h2 : o2 + sz 2 ≤ d 2) :
    ∀ a, (![o0, o1, o2] : Fin 3 → ℕ) a + sz a ≤ d a := by
  intro a; match a with
  | 0 => exact h0
  | 1 => exact h1
  | 2 => exact h2

/-- A one-element window of a rank-1 buffer. -/
theorem inb1 {d sz : Fin 1 → ℕ} {o : ℕ} (h : o + sz 0 ≤ d 0) : ∀ a, (![o] : Fin 1 → ℕ) a + sz a ≤ d a := by
  intro a; match a with
  | 0 => exact h

/-- A window of bf16 rows that starts on an even row and holds an even number of rows is made of whole words. -/
theorem packed2 {d sz : Fin 2 → ℕ} {o0 o1 : ℕ} (h : ∀ a, (![o0, o1] : Fin 2 → ℕ) a + sz a ≤ d a)
    (e0 : 2 ∣ o0) (es : 2 ∣ sz 0) :
    (Rect.unit (s := ⟨2, d⟩) ![o0, o1] sz h).PackedRows (EltTy.packing .bf16) :=
  .inr ⟨le_refl 2, rfl, .inl ⟨e0, es⟩⟩

/-- Row `q` of the projected encoder block. -/
theorem inb_row (q : ℕ) : ∀ a, (![q % 512, 0] : Fin 2 → ℕ) a + S1x256.size a ≤ S512x256.size a :=
  inb2 (by show q % 512 + 1 ≤ 512; omega) (by decide)
/-- The place of row `q` in the packed array: eight rows to a packed row. -/
theorem inb_slot (q : ℕ) : ∀ a, (![q / 8 % 64, q % 8 * 256] : Fin 2 → ℕ) a + S1x256.size a ≤ S64x2048.size a :=
  inb2 (by show q / 8 % 64 + 1 ≤ 64; omega) (by show q % 8 * 256 + 256 ≤ 2048; omega)
/-- The pair of packed rows that holds row `q`'s place. -/
theorem inb_pair (q : ℕ) : ∀ a, (![2 * (q / 16 % 32), q % 8 * 256] : Fin 2 → ℕ) a + S2x256.size a ≤ S64x2048.size a :=
  inb2 (by show 2 * (q / 16 % 32) + 2 ≤ 64; omega) (by show q % 8 * 256 + 256 ≤ 2048; omega)
/-- Which of the two rows of the pair. -/
theorem slices_pair (q : ℕ) : S2x256.Slices ![q / 8 % 2, 0] S1x256 :=
  ⟨rfl, inb2 (d := ![2, 256]) (sz := ![1, 256]) (by show q / 8 % 2 + 1 ≤ 2; omega) (by decide)⟩
/-- Block `a` of the projected encoder block. -/
theorem inb_enc (a : ℕ) : ∀ x, (![a % 4, 0, 0] : Fin 3 → ℕ) x + S1x128x256.size x ≤ S4x128x256.size x :=
  inb3 (by show a % 4 + 1 ≤ 4; omega) (by decide) (by decide)
/-- Block `a` of the projected rows. -/
theorem inb_epq (a : ℕ) : ∀ x, (![a % 4 * 128, 0] : Fin 2 → ℕ) x + S128x256.size x ≤ S512x256.size x :=
  inb2 (by show a % 4 * 128 + 128 ≤ 512; omega) (by decide)
/-- Block `a` of the block-diagonal weights. -/
theorem inb_wv (a : ℕ) : ∀ x, (![a % 8 * 256, a % 8 * 4] : Fin 2 → ℕ) x + S256x4.size x ≤ S2048x32.size x :=
  inb2 (by show a % 8 * 256 + 256 ≤ 2048; omega) (by show a % 8 * 4 + 4 ≤ 32; omega)
/-- Batch `b` of the decoder block. -/
theorem inb_dec (b : ℕ) : ∀ x, (![b % 4, 0, 0] : Fin 3 → ℕ) x + S1x128x64.size x ≤ S4x128x64.size x :=
  inb3 (by show b % 4 + 1 ≤ 4; omega) (by decide) (by decide)
/-- Batch `b`'s entry of a table of lengths. -/
theorem inb_len (b : ℕ) : ∀ x, (![b % 4] : Fin 1 → ℕ) x + S1.size x ≤ S4.size x :=
  inb1 (by show b % 4 + 1 ≤ 4; omega)
/-- Packed row `k` of batch `b`. -/
theorem inb_epm (b k : ℕ) : ∀ x, (![(b * 16 + k) % 64, 0] : Fin 2 → ℕ) x + S1x2048.size x ≤ S64x2048.size x :=
  inb2 (by show (b * 16 + k) % 64 + 1 ≤ 64; omega) (by decide)
/-- The 32 columns of group `k` of batch `b`. -/
theorem inb_grp (b k : ℕ) : ∀ x, (![0, b % 4 * 512 + k % 16 * 32] : Fin 2 → ℕ) x + S128x32.size x ≤ S128x2048.size x :=
  inb2 (by decide) (by show b % 4 * 512 + k % 16 * 32 + 32 ≤ 2048; omega)
/-- The 512 columns of batch `b`. -/
theorem inb_out (b : ℕ) : ∀ x, (![0, b % 4 * 512] : Fin 2 → ℕ) x + S128x512.size x ≤ S128x2048.size x :=
  inb2 (by decide) (by show b % 4 * 512 + 512 ≤ 2048; omega)

/-! ## What the body computes, payload by payload -/

open Gen

/-- One block of encoder rows times the block-diagonal weights. -/
def encPay (x : Vec F S1x128x256 .f32) (w : Vec F S256x256 .f32) : FVec F S128x256 .bf16 :=
  shapeCast S128x256
    (truncf .bf16
      (matmul dot_S128x256_S256x256_S128x256_1_0_0_1_n_n none (shapeCast S128x256 x shapeCasts_S1x128x256_S128x256)
        (shapeCast S256x256 w shapeCasts_S256x256_S256x256) (constant S128x256 .f32 0x00000000#32))
      bitsLt_bf16_f32)
    shapeCasts_S128x256_S128x256

/-- One block of decoder rows times the repeated weights. -/
def decPay (x : Vec F S1x128x64 .f32) (w : Vec F S64x256 .f32) : FVec F S128x256 .bf16 :=
  shapeCast S128x256
    (truncf .bf16
      (matmul dot_S128x64_S64x256_S128x256_1_0_0_1_n_n none (shapeCast S128x64 x shapeCasts_S1x128x64_S128x64) w
        (constant S128x256 .f32 0x00000000#32))
      bitsLt_bf16_f32)
    shapeCasts_S128x256_S128x256

/-- The scores of 32 encoder positions: `tanh` of decoder plus packed encoder row, times the block-diagonal weights. -/
def grpPay (d : Vec F S128x2048 .bf16) (r : Vec F S1x2048 .bf16) (w : Vec F S2048x32 .bf16) : FVec F S128x32 .f32 :=
  matmul dot_S128x2048_S2048x32_S128x32_1_0_0_1_n_n none
    (tanh (addf d (broadcastTo S128x2048
      (shapeCast S1x2048 (shapeCast S2048 r shapeCasts_S1x2048_S2048) shapeCasts_S2048_S1x2048)
      broadcasts_S1x2048_S128x2048)))
    w (constant S128x32 .f32 0x00000000#32)

/-- The scores with the columns past the encoder length at minus infinity. -/
def maskPay (v5 : Elt F .i32) (x : Vec F S128x512 .f32) : FVec F S128x512 .f32 :=
  select (cmpi .slt (iota .tc S128x512 32 [1] iota_S128x512_d1_w32) (broadcast S128x512 v5))
    (shapeCast S128x512 x shapeCasts_S128x512_S128x512) (broadcast S128x512 (Scalar.ofBits .f32 0xFF800000#32))

/-- The exponentials of the masked scores, each row's maximum taken off. -/
def expPay (v5 : Elt F .i32) (x : Vec F S128x512 .f32) : FVec F S128x512 .f32 :=
  exp (subf (maskPay v5 x) (broadcastTo S128x512
    (shapeCast S128x1 (multiReduction .maximumf [1] S128 (maskPay v5 x) 0xFF800000#32 reduces_S128x512_S128 (.inl rfl) rfl)
      shapeCasts_S128_S128x1) broadcasts_S128x1_S128x512))

/-- The masked softmax of a tile of scores, the rows past the decoder length at zero. -/
def smPay (arg0 : BitVec 32) (v5 v6 : Elt F .i32) (x : Vec F S128x512 .f32) : FVec F S128x512 .f32 :=
  select
    (cmpi .slt (addi (broadcast S128x512 (Scalar.muli arg0 128#32)) (iota .tc S128x512 32 [0] iota_S128x512_d0_w32))
      (broadcast S128x512 v6))
    (mulf (expPay v5 x) (broadcastTo S128x512
      (divf (broadcast S128x1 (Scalar.ofBits .f32 0x3F800000#32))
        (shapeCast S128x1 (multiReduction .add [1] S128 (expPay v5 x) 0x00000000#32 reduces_S128x512_S128 (.inl rfl) rfl)
          shapeCasts_S128_S128x1)) broadcasts_S128x1_S128x512))
    (broadcast S128x512 (Scalar.ofBits .f32 0x00000000#32))

/-! ## The program -/

/-- The body's programs. -/
abbrev BProg (F : FTy → Type) [FloatOps F] (α : Type) := Prog (TpuEff nD τ sig (Elt F) Λ₀ .tc) α

variable (R : Refs)

/-- Read row `q` of the projected encoder block. -/
def rowLoad (q : ℕ) : BProg F (FVec F S256 .bf16) := do
  let x : Vec F S1x256 .bf16 ← Prog.lift (.load R.a9 (Rect.unit (s := S512x256) ![q % 512, 0] S1x256.size (inb_row q)).toLoadRect (View.loadsAt_vmem h_S1x256))
  let _ : Vec F S1x256 .bf16 ← Prog.lift (.load R.a10 (Rect.unit (s := S64x2048) ![q / 8 % 64, q % 8 * 256] S1x256.size (inb_slot q)).toLoadRect (View.loadsAt_vmem h_S1x256))
  pure (shapeCast S256 x shapeCasts_S1x256_S256)

/-- Write row `q` at its place in the packed array. -/
def rowStore (q : ℕ) (v : FVec F S256 .bf16) : BProg F PUnit :=
  storeSubelements R.a10 (Rect.unit (s := S64x2048) ![2 * (q / 16 % 32), q % 8 * 256] S2x256.size (inb_pair q))
    (fun old => updateSlice old (shapeCast S1x256 v shapeCasts_S256_S1x256) ![q / 8 % 2, 0] (slices_pair q))
    (View.loadsAt_vmem h_S2x256)
    (View.stores_vmem h_S2x256 (R.h10.storeExact_slice rfl _ (packed2 _ ⟨_, rfl⟩ ⟨1, rfl⟩)) (fun _ => rfl))

/-- Copy row `q` of the projected encoder block to its place. -/
def copyRow (q : ℕ) : BProg F PUnit := do
  let v ← rowLoad R q
  rowStore R q v

/-- Copy `n` rows from row `q` on. -/
def copyRows : ℕ → ℕ → BProg F PUnit
  | _, 0 => pure ⟨⟩
  | q, n + 1 => do copyRow R q; copyRows (q + 1) n

/-- Six rows: row `q`, already read, is written; five more are copied; row `q + 6` is read. -/
def six (q : ℕ) (v : FVec F S256 .bf16) : BProg F (FVec F S256 .bf16) := do
  rowStore R q v
  copyRows R (q + 1) 5
  rowLoad R (q + 6)

/-- `n` times six rows, from row `q` on. -/
def sixes : ℕ → ℕ → FVec F S256 .bf16 → BProg F (FVec F S256 .bf16)
  | _, 0, v => pure v
  | q, n + 1, v => do
    let v ← six R q v
    sixes (q + 6) n v

/-- Block `a` of the encoder rows, projected. -/
def encBlock (a : ℕ) : BProg F PUnit := do
  let x : Vec F S1x128x256 .f32 ← Prog.lift (.load R.a3 (Rect.unit (s := S4x128x256) ![a % 4, 0, 0] S1x128x256.size (inb_enc a)).toLoadRect (View.loadsAt_vmem h_S1x128x256))
  let w : Vec F S256x256 .f32 ← Prog.lift (.load R.a5 (Rect.unit (s := S256x256) ![0, 0] S256x256.size inb_S256x256_S256x256_0_0).toLoadRect (View.loadsAt_vmem h_S256x256))
  let _ : Vec F S128x256 .bf16 ← Prog.lift (.load R.a9 (Rect.unit (s := S512x256) ![a % 4 * 128, 0] S128x256.size (inb_epq a)).toLoadRect (View.loadsAt_vmem h_S128x256))
  Prog.lift (.store R.a9 (Rect.unit (s := S512x256) ![a % 4 * 128, 0] S128x256.size (inb_epq a)) (encPay x w) Finset.univ
    (View.stores_vmem h_S128x256 (R.h9.storeExact_slice rfl _ (packed2 _ ⟨a % 4 * 64, by omega⟩ ⟨64, rfl⟩)) (fun _ => rfl)) (.inl rfl))

/-- The first `n` blocks from block `a` on. -/
def encBlocks : ℕ → ℕ → BProg F PUnit
  | _, 0 => pure ⟨⟩
  | a, n + 1 => do encBlock R a; encBlocks (a + 1) n

/-- Fill the weights' array with zeros. -/
def wvZero : BProg F PUnit := do
  let _ : Vec F S2048x32 .bf16 ← Prog.lift (.load R.a11 (Rect.unit (s := S2048x32) ![0, 0] S2048x32.size inb_S2048x32_S2048x32_0_0).toLoadRect (View.loadsAt_vmem h_S2048x32))
  Prog.lift (.store R.a11 (Rect.unit (s := S2048x32) ![0, 0] S2048x32.size inb_S2048x32_S2048x32_0_0)
    (shapeCast S2048x32 (broadcast S2048x32 (Scalar.ofBits .bf16 0x0000#16)) shapeCasts_S2048x32_S2048x32 : FVec F S2048x32 .bf16) Finset.univ
    (View.stores_vmem h_S2048x32 (R.h11.storeExact_slice rfl _ (packed2 _ ⟨0, rfl⟩ ⟨1024, rfl⟩)) (fun _ => rfl)) (.inl rfl))

/-- Write the weights as the `a`-th diagonal block. -/
def wvBlock (a : ℕ) : BProg F PUnit := do
  let x : Vec F S256x4 .bf16 ← Prog.lift (.load R.a7 (Rect.unit (s := S256x4) ![0, 0] S256x4.size inb_S256x4_S256x4_0_0).toLoadRect (View.loadsAt_vmem h_S256x4))
  let _ : Vec F S256x4 .bf16 ← Prog.lift (.load R.a11 (Rect.unit (s := S2048x32) ![a % 8 * 256, a % 8 * 4] S256x4.size (inb_wv a)).toLoadRect (View.loadsAt_vmem h_S256x4))
  Prog.lift (.store R.a11 (Rect.unit (s := S2048x32) ![a % 8 * 256, a % 8 * 4] S256x4.size (inb_wv a))
    (shapeCast S256x4 (shapeCast S256x4 x shapeCasts_S256x4_S256x4) shapeCasts_S256x4_S256x4) Finset.univ
    (View.stores_vmem h_S256x4 (R.h11.storeExact_slice rfl _ (packed2 _ ⟨a % 8 * 128, by omega⟩ ⟨128, rfl⟩)) (fun _ => rfl)) (.inl rfl))

/-- `n` diagonal blocks from block `a` on. -/
def wvBlocks : ℕ → ℕ → BProg F PUnit
  | _, 0 => pure ⟨⟩
  | a, n + 1 => do wvBlock R a; wvBlocks (a + 1) n

/-- What the first grid point does before its tile: project the encoder rows, pack them, lay the weights out. -/
def prep : BProg F PUnit := do
  encBlocks R 0 4
  copyRows R 0 4
  let v ← rowLoad R 4
  let v ← sixes R 4 84 v
  rowStore R 508 v
  copyRows R 509 3
  wvZero R
  wvBlocks R 0 8

/-- Group `k` of batch `b`, if its threshold is below the encoder length; then the rest. -/
def group (b k : ℕ) (thr : BitVec 32) (v5 : Elt F .i32) (d : Vec F S128x2048 .bf16) {α : Type} (rest : BProg F α) : BProg F α :=
  if Scalar.cmpi .ne (Scalar.extui (Scalar.cmpi .sgt v5 thr) : BitVec 32) 0#32 = 1#1 then do
    let r : Vec F S1x2048 .bf16 ← Prog.lift (.load R.a10 (Rect.unit (s := S64x2048) ![(b * 16 + k) % 64, 0] S1x2048.size (inb_epm b k)).toLoadRect (View.loadsAt_vmem h_S1x2048))
    let w : Vec F S2048x32 .bf16 ← Prog.lift (.load R.a11 (Rect.unit (s := S2048x32) ![0, 0] S2048x32.size inb_S2048x32_S2048x32_0_0).toLoadRect (View.loadsAt_vmem h_S2048x32))
    let _ : Vec F S128x32 .f32 ← Prog.lift (.load R.a8 (Rect.unit (s := S128x2048) ![0, b % 4 * 512 + k % 16 * 32] S128x32.size (inb_grp b k)).toLoadRect (View.loadsAt_vmem h_S128x32))
    Prog.lift (.store R.a8 (Rect.unit (s := S128x2048) ![0, b % 4 * 512 + k % 16 * 32] S128x32.size (inb_grp b k)) (grpPay d r w) Finset.univ
      (View.stores_vmem_bits_univ h_S128x32 rfl) (.inl rfl))
    rest
  else rest

/-- `n` groups of batch `b` from group `k` on, then the rest. -/
def groups (b : ℕ) (v5 : Elt F .i32) (d : Vec F S128x2048 .bf16) {α : Type} : ℕ → ℕ → BProg F α → BProg F α
  | _, 0, rest => rest
  | k, n + 1, rest => group R b k (BitVec.ofNat 32 (k * 32)) v5 d (groups b v5 d (k + 1) n rest)

/-- Project the decoder rows of batch `b` and repeat them eight times along the columns. -/
def decTile (b : ℕ) : BProg F (Vec F S128x2048 .bf16) := do
  let x : Vec F S1x128x64 .f32 ← Prog.lift (.load R.a4 (Rect.unit (s := S4x128x64) ![b % 4, 0, 0] S1x128x64.size (inb_dec b)).toLoadRect (View.loadsAt_vmem h_S1x128x64))
  let w : Vec F S64x256 .f32 ← Prog.lift (.load R.a6 (Rect.unit (s := S64x256) ![0, 0] S64x256.size inb_S64x256_S64x256_0_0).toLoadRect (View.loadsAt_vmem h_S64x256))
  let _ : Vec F S128x256 .bf16 ← Prog.lift (.load R.a12 (Rect.unit (s := S128x2048) ![0, 0] S128x256.size inb_S128x2048_S128x256_0_0).toLoadRect (View.loadsAt_vmem h_S128x256))
  Prog.lift (.store R.a12 (Rect.unit (s := S128x2048) ![0, 0] S128x256.size inb_S128x2048_S128x256_0_0) (decPay x w) Finset.univ
    (View.stores_vmem h_S128x256 (R.h12.storeExact_slice rfl _ packedbf16_S128x2048_S128x256_0_0) (fun _ => rfl)) (.inl rfl))
  let x : Vec F S128x256 .bf16 ← Prog.lift (.load R.a12 (Rect.unit (s := S128x2048) ![0, 0] S128x256.size inb_S128x2048_S128x256_0_0).toLoadRect (View.loadsAt_vmem h_S128x256))
  let _ : Vec F S128x256 .bf16 ← Prog.lift (.load R.a12 (Rect.unit (s := S128x2048) ![0, 256] S128x256.size inb_S128x2048_S128x256_0_256).toLoadRect (View.loadsAt_vmem h_S128x256))
  Prog.lift (.store R.a12 (Rect.unit (s := S128x2048) ![0, 256] S128x256.size inb_S128x2048_S128x256_0_256) (shapeCast S128x256 x shapeCasts_S128x256_S128x256) Finset.univ
    (View.stores_vmem h_S128x256 (R.h12.storeExact_slice rfl _ packedbf16_S128x2048_S128x256_0_256) (fun _ => rfl)) (.inl rfl))
  let x : Vec F S128x512 .bf16 ← Prog.lift (.load R.a12 (Rect.unit (s := S128x2048) ![0, 0] S128x512.size inb_S128x2048_S128x512_0_0).toLoadRect (View.loadsAt_vmem h_S128x512))
  let _ : Vec F S128x512 .bf16 ← Prog.lift (.load R.a12 (Rect.unit (s := S128x2048) ![0, 512] S128x512.size inb_S128x2048_S128x512_0_512).toLoadRect (View.loadsAt_vmem h_S128x512))
  Prog.lift (.store R.a12 (Rect.unit (s := S128x2048) ![0, 512] S128x512.size inb_S128x2048_S128x512_0_512) (shapeCast S128x512 x shapeCasts_S128x512_S128x512) Finset.univ
    (View.stores_vmem h_S128x512 (R.h12.storeExact_slice rfl _ packedbf16_S128x2048_S128x512_0_512) (fun _ => rfl)) (.inl rfl))
  let x : Vec F S128x1024 .bf16 ← Prog.lift (.load R.a12 (Rect.unit (s := S128x2048) ![0, 0] S128x1024.size inb_S128x2048_S128x1024_0_0).toLoadRect (View.loadsAt_vmem h_S128x1024))
  let _ : Vec F S128x1024 .bf16 ← Prog.lift (.load R.a12 (Rect.unit (s := S128x2048) ![0, 1024] S128x1024.size inb_S128x2048_S128x1024_0_1024).toLoadRect (View.loadsAt_vmem h_S128x1024))
  Prog.lift (.store R.a12 (Rect.unit (s := S128x2048) ![0, 1024] S128x1024.size inb_S128x2048_S128x1024_0_1024) (shapeCast S128x1024 x shapeCasts_S128x1024_S128x1024) Finset.univ
    (View.stores_vmem h_S128x1024 (R.h12.storeExact_slice rfl _ packedbf16_S128x2048_S128x1024_0_1024) (fun _ => rfl)) (.inl rfl))
  Prog.lift (.load R.a12 (Rect.unit (s := S128x2048) ![0, 0] S128x2048.size inb_S128x2048_S128x2048_0_0).toLoadRect (View.loadsAt_vmem h_S128x2048))

/-- The first part of a tile: the decoder rows and two groups. -/
def tileHead (b : ℕ) (v5 : Elt F .i32) : BProg F (Σ' (_ : Vec F S128x2048 .bf16), BitVec 32) := do
  let d ← decTile R b
  groups R b v5 d 0 2 (pure ⟨d, 64#32⟩)

/-- The middle of a tile: ten groups. -/
def tileMid (b : ℕ) (v5 : Elt F .i32) (d : Vec F S128x2048 .bf16) (thr : BitVec 32) : BProg F (BitVec 32) :=
  group R b 2 thr v5 d (groups R b v5 d 3 9 (pure 384#32))

/-- The end of a tile: four groups, then the softmax of the batch's columns. -/
def tileTail (b : ℕ) (arg0 : BitVec 32) (v5 v6 : Elt F .i32) (d : Vec F S128x2048 .bf16) (thr : BitVec 32) : BProg F (FVec F S128x512 .f32) :=
  group R b 12 thr v5 d <| groups R b v5 d 13 3 do
    let x : Vec F S128x512 .f32 ← Prog.lift (.load R.a8 (Rect.unit (s := S128x2048) ![0, b % 4 * 512] S128x512.size (inb_out b)).toLoadRect (View.loadsAt_vmem h_S128x512))
    let _ : Vec F S128x512 .f32 ← Prog.lift (.load R.a8 (Rect.unit (s := S128x2048) ![0, b % 4 * 512] S128x512.size (inb_out b)).toLoadRect (View.loadsAt_vmem h_S128x512))
    pure (smPay arg0 v5 v6 x)

/-- The tile of batch `b`, if any of its rows is below the decoder length; then the rest. -/
def tile (b : ℕ) (arg0 : BitVec 32) {α : Type} (rest : BProg F α) : BProg F α := do
  let v5 : Elt F .i32 ← smemLoad R.a1 (Rect.unit (s := S4) ![b % 4] S1.size (inb_len b)) numel1_S1 rfl
  let v6 : Elt F .i32 ← smemLoad R.a2 (Rect.unit (s := S4) ![b % 4] S1.size (inb_len b)) numel1_S1 rfl
  if Scalar.cmpi .ne (Scalar.extui (Scalar.cmpi .slt (Scalar.muli arg0 128#32) v6) : BitVec 32) 0#32 = 1#1 then do
    let ⟨d, thr⟩ ← tileHead R b v5
    let thr ← tileMid R b v5 d thr
    let y ← tileTail R b arg0 v5 v6 d thr
    Prog.lift (.store R.a8 (Rect.unit (s := S128x2048) ![0, b % 4 * 512] S128x512.size (inb_out b)) y Finset.univ
      (View.stores_vmem_bits_univ h_S128x512 rfl) (.inl rfl))
    rest
  else rest

/-- Fill the output block with zeros. -/
def zeroOut : BProg F PUnit := do
  let _ : Vec F S128x2048 .f32 ← Prog.lift (.load R.a8 (Rect.unit (s := S128x2048) ![0, 0] S128x2048.size inb_S128x2048_S128x2048_0_0).toLoadRect (View.loadsAt_vmem h_S128x2048))
  Prog.lift (.store R.a8 (Rect.unit (s := S128x2048) ![0, 0] S128x2048.size inb_S128x2048_S128x2048_0_0)
    (broadcast S128x2048 (Scalar.ofBits .f32 0x00000000#32) : FVec F S128x2048 .f32) Finset.univ
    (View.stores_vmem_bits_univ h_S128x2048 rfl) (.inl rfl))

/-- The four tiles. -/
def tiles (arg0 : BitVec 32) : BProg F PUnit :=
  tile R 0 arg0 (tile R 1 arg0 (tile R 2 arg0 (tile R 3 arg0 (pure ⟨⟩))))

/-- The whole body at grid point `i`. -/
def body (i : grid0.Coords) : BProg F PUnit := do
  zeroOut R
  if Scalar.cmpi .ne (Scalar.extui (Scalar.cmpi .eq (BitVec.ofNat 32 (i 0).val) 0#32) : BitVec 32) 0#32 = 1#1 then do
    prep R
    tiles R (BitVec.ofNat 32 (i 0).val)
  else tiles R (BitVec.ofNat 32 (i 0).val)

end Cert.KernelIdeal.Attn
end
-- ==== Proof.Wp.lean ====
module
public import proofs.«01_k».proof.Proof.Body
public import Idealize.ShloMosaic.Lib.VecWindow
public import Idealize.ShloMosaic.Lib.Writes
public import Idealize.ShloMosaic.Lib.ReshapeSlab
/-!
# What the body's loads and stores do to the contents of the twelve buffers

`State` lists the contents of the twelve buffers a grid point works on. `Runs p s x s'`: from contents `s`, `p` ends,
returns `x` and leaves `s'`. Every load returns a window, every store puts one.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
variable {F : FTy → Type} [FloatOps F]

/-- The heap assertions of the launch. -/
abbrev SPr (F : FTy → Type) : Type := sProp (MT nD τ sig Unit (Elt F) ℕ (UR sig nD τ) ℕ)

/-- What a body program ensures. -/
abbrev bwp {α : Type} (c : Dev nD) (p : BProg F α) (Q : α → SPr F) : SPr F :=
  wp frame (wpE (defs₀ (F := F)) Variants.none (c.tc : Thread nD τ) none) Set.univ p Q

/-- A load of a window reads the window of what the buffer holds. -/
theorem bwp_load (c : Dev nD) {cs : CoreSpace} {s : Shape} {e : EltTy} (m : Memref sig .tc cs s e) {off size : Fin s.rank → ℕ}
    (inb : ∀ a, off a + size a ≤ s.size a) {hl : m.view.LoadsAt (Rect.unit off size inb).toLoadRect}
    (q : PosShare TreeShare) (X : s.Idx → Elt F e) (Q : ((Rect.unit off size inb).shape.Idx → Elt F e) → SPr F) :
    iprop(owns (c.tc : Thread nD τ) m q X ∗ (owns (c.tc : Thread nD τ) m q X -∗ Q (VecWindow.window X off size inb)))
      ⊢ bwp c (Prog.lift (.load m (Rect.unit off size inb).toLoadRect hl)) Q := by
  iintro ⟨Ho, HQ⟩
  ihave H' := (show owns (c.tc : Thread nD τ) m q X ⊢ iprop(∃ g, ⌜m.view.read (Elt F) g = X⌝ ∗ m.view.loc (c.tc : Thread nD τ) ↦[m.view.set]{q} g) from .rfl) $$ Ho
  icases H' with ⟨%g, %hg, Ho⟩
  iapply (wp_load (defs := defs₀ (F := F)) Variants.none (c.tc : Thread nD τ) none Set.univ (m := m) (hl := hl) (k := fun x => .ret x)
    (View.setOn_subset_set _ _)) $$ Ho
  iintro Ho
  rw [wp_ret, View.readAt_unit m.view g inb rfl inb, hg]
  imodintro
  iapply HQ
  rw [← hg]
  iapply (owns_intro (c.tc : Thread nD τ) m q g) $$ Ho

/-- A store of a window puts it over what the buffer holds. -/
theorem bwp_store (c : Dev nD) {cs : CoreSpace} {s : Shape} {e : EltTy} (m : Memref sig .tc cs s e) {off size : Fin s.rank → ℕ}
    (inb : ∀ a, off a + size a ≤ s.size a) {w : (Rect.unit off size inb).shape.Idx → Elt F e}
    {hx : (m.access (Rect.unit off size inb)).Stores Finset.univ} {hm : Finset.univ = Finset.univ ∨ ∀ a, (Rect.unit off size inb).stride a = 1}
    (X : s.Idx → Elt F e) (Q : PUnit → SPr F) :
    iprop(owns (c.tc : Thread nD τ) m fullShare X ∗ (owns (c.tc : Thread nD τ) m fullShare (VecWindow.put X off size w) -∗ Q ⟨⟩))
      ⊢ bwp c (Prog.lift (.store m (Rect.unit off size inb) w Finset.univ hx hm)) Q := by
  iintro ⟨Ho, HQ⟩
  ihave H' := (show owns (c.tc : Thread nD τ) m fullShare X ⊢ iprop(∃ g, ⌜m.view.read (Elt F) g = X⌝ ∗ m.view.loc (c.tc : Thread nD τ) ↦[m.view.set]{fullShare} g) from .rfl) $$ Ho
  icases H' with ⟨%g, %hg, Ho⟩
  iapply (wp_store_writes₀ (defs := defs₀ (F := F)) Variants.none (c.tc : Thread nD τ) none Set.univ (m := m) (hx := hx) (hm := hm) (k := fun x => .ret x)
    (show (m.access (Rect.unit off size inb)).set ⊆ m.view.set from View.set_slice_subset _ _)) $$ Ho
  iintro Ho
  rw [wp_ret]
  imodintro
  iapply HQ
  have e : VecWindow.put X off size w = m.view.read (Elt F) (m.view.writes (Elt F) g [⟨Rect.unit off size inb, w⟩]) := by
    rw [View.read_writes_cons_put m.view g inb w [] rfl, View.writes_nil, hg]
  rw [e]
  iapply (owns_intro (c.tc : Thread nD τ) m fullShare _) $$ Ho

/-- A load of one word of a table reads it. -/
theorem bwp_smem (c : Dev nD) {s : Shape} {e : EltTy} (m : Memref sig .tc .smem s e) {off size : Fin s.rank → ℕ}
    (inb : ∀ a, off a + size a ≤ s.size a) (h1 : (Rect.unit off size inb).shape.numel = 1) (hp : e.packing = 1)
    (q : PosShare TreeShare) (X : s.Idx → Elt F e) (Q : Elt F e → SPr F) :
    iprop(owns (c.tc : Thread nD τ) m q X ∗ (owns (c.tc : Thread nD τ) m q X
        -∗ Q (VecWindow.window X off size inb (Shape.Idx.first (h1.symm ▸ Nat.one_pos)))))
      ⊢ bwp c (smemLoad m (Rect.unit off size inb) h1 hp) Q := by
  iintro ⟨Ho, HQ⟩
  ihave H' := (show owns (c.tc : Thread nD τ) m q X ⊢ iprop(∃ g, ⌜m.view.read (Elt F) g = X⌝ ∗ m.view.loc (c.tc : Thread nD τ) ↦[m.view.set]{q} g) from .rfl) $$ Ho
  icases H' with ⟨%g, %hg, Ho⟩
  unfold smemLoad
  iapply (wp_smemLoadElt (defs := defs₀ (F := F)) Variants.none (c.tc : Thread nD τ) none Set.univ (m := m) (r := Rect.unit off size inb)
    (show (m.access (Rect.unit off size inb)).set ⊆ m.view.set from View.set_slice_subset _ _)) $$ Ho
  iintro Ho
  rw [wp_ret]
  imodintro
  have e : (m.access (Rect.unit off size inb)).read (Elt F) g = VecWindow.window X off size inb := by
    subst hg; rfl
  rw [e]
  iapply HQ
  rw [← hg]
  iapply (owns_intro (c.tc : Thread nD τ) m q g) $$ Ho

/-! ## States -/

/-- The contents of the twelve buffers: the two tables of lengths, the encoder rows, the block of decoder rows, the
    three weights, the output block, and the four scratch arrays (projected rows, packed rows, block-diagonal
    weights, repeated decoder rows). -/
@[ext] structure State (F : FTy → Type) [FloatOps F] where
  el : Vec F S4 .i32
  dl : Vec F S4 .i32
  enc : Vec F S4x128x256 .f32
  dec : Vec F S4x128x64 .f32
  w1 : Vec F S256x256 .f32
  w2 : Vec F S64x256 .f32
  v4 : Vec F S256x4 .bf16
  out : Vec F S128x2048 .f32
  epq : Vec F S512x256 .bf16
  epm : Vec F S64x2048 .bf16
  wv : Vec F S2048x32 .bf16
  decm : Vec F S128x2048 .bf16

/-- The twelve buffers are held at the contents `s`. -/
def holds (c : Dev nD) (R : Refs) (s : State F) : SPr F :=
  iprop(owns (c.tc : Thread nD τ) R.a1 fullShare.right s.el ∗ owns (c.tc : Thread nD τ) R.a2 fullShare.right s.dl
    ∗ owns (c.tc : Thread nD τ) R.a3 fullShare s.enc ∗ owns (c.tc : Thread nD τ) R.a4 fullShare s.dec
    ∗ owns (c.tc : Thread nD τ) R.a5 fullShare s.w1 ∗ owns (c.tc : Thread nD τ) R.a6 fullShare s.w2
    ∗ owns (c.tc : Thread nD τ) R.a7 fullShare s.v4 ∗ owns (c.tc : Thread nD τ) R.a8 fullShare s.out
    ∗ owns (c.tc : Thread nD τ) R.a9 fullShare s.epq ∗ owns (c.tc : Thread nD τ) R.a10 fullShare s.epm
    ∗ owns (c.tc : Thread nD τ) R.a11 fullShare s.wv ∗ owns (c.tc : Thread nD τ) R.a12 fullShare s.decm)

/-- From contents `s` the program ends, returns `x` and leaves contents `s'`. -/
def Runs (c : Dev nD) (R : Refs) {α : Type} (p : BProg F α) (s : State F) (x : α) (s' : State F) : Prop :=
  ∀ Q : α → SPr F, iprop(holds c R s ∗ (holds c R s' -∗ Q x)) ⊢ bwp c p Q

variable {c : Dev nD} {R : Refs} {α β : Type} {s s' s'' : State F}

/-- Returning changes nothing. -/
theorem Runs.pure (x : α) : Runs c R (Pure.pure x : BProg F α) s x s := by
  intro Q
  iintro ⟨H, HQ⟩
  unfold bwp
  rw [wp_pure]
  imodintro
  iapply HQ $$ H

/-- One program after another. -/
theorem Runs.bind {p : BProg F α} {k : α → BProg F β} {x : α} {y : β} (h : Runs c R p s x s') (h' : Runs c R (k x) s' y s'') :
    Runs c R (p >>= k) s y s'' := by
  intro Q
  unfold bwp
  rw [wp_bind]
  refine .trans ?_ (h _)
  iintro ⟨H, HQ⟩
  isplitl [H]; · iexact H
  iintro H
  iapply (h' Q)
  isplitl [H]; · iexact H
  iexact HQ

/-- A program that runs to an equal result. -/
theorem Runs.of_eq {p : BProg F α} {x x' : α} (h : Runs c R p s x s') (hx : x = x') (hs : s' = s'') : Runs c R p s x' s'' := by
  subst hx; subst hs; exact h

/-- A conditional runs as its branch. -/
theorem Runs.ite {P : Prop} [Decidable P] {p q : BProg F α} {x y : α} (h : P → Runs c R p s x s') (h' : ¬ P → Runs c R q s y s'') :
    Runs c R (if P then p else q) s (if P then x else y) (if P then s' else s'') := by
  by_cases hP : P
  · simp only [if_pos hP]; exact h hP
  · simp only [if_neg hP]; exact h' hP

end Cert.KernelIdeal.Attn
end
-- ==== Proof.At.lean ====
module
public import Idealize.ShloMosaic.Lib.VecWindow
public import Idealize.ShloMosaic.Lib.PointwiseCore
/-!
# Two-axis arrays read at natural coordinates

`at2 X i j` is the element of `X` in row `i` and column `j`, `mk2 f` the array with elements `f i j`. Windows and puts
are read at coordinates.
-/
@[expose] public section
noncomputable section
namespace Cert.Attn
open Idealize.ShloMosaic
variable {α : Type} {a b m n : ℕ}

/-- The element in row `i` and column `j`. -/
def at2 [NeZero a] [NeZero b] (X : (⟨2, ![a, b]⟩ : Shape).Idx → α) (i j : ℕ) : α := X (ix2 (Fin.ofNat a i) (Fin.ofNat b j))

/-- The array with elements `f i j`. -/
def mk2 (f : ℕ → ℕ → α) : (⟨2, ![a, b]⟩ : Shape).Idx → α := fun y => f (y 0).val (y 1).val

variable [NeZero a] [NeZero b] [NeZero m] [NeZero n]

/-- An element at an index is the element at its coordinates. -/
theorem at2_idx (X : (⟨2, ![a, b]⟩ : Shape).Idx → α) (y : (⟨2, ![a, b]⟩ : Shape).Idx) : X y = at2 X (y 0).val (y 1).val := by
  unfold at2
  refine congrArg X ?_
  rw [eq_ix2 y]
  congr 1
  · exact Fin.ext (Nat.mod_eq_of_lt (y 0).isLt).symm
  · exact Fin.ext (Nat.mod_eq_of_lt (y 1).isLt).symm

/-- Arrays with the same elements are equal. -/
theorem ext2 {X Y : (⟨2, ![a, b]⟩ : Shape).Idx → α} (h : ∀ i < a, ∀ j < b, at2 X i j = at2 Y i j) : X = Y := by
  funext y
  rw [at2_idx X, at2_idx Y]
  exact h _ (y 0).isLt _ (y 1).isLt

/-- `mk2 f` has the elements `f i j`. -/
theorem at2_mk2 (f : ℕ → ℕ → α) {i j : ℕ} (hi : i < a) (hj : j < b) : at2 (mk2 f : (⟨2, ![a, b]⟩ : Shape).Idx → α) i j = f i j := by
  show f (i % a) (j % b) = f i j
  rw [Nat.mod_eq_of_lt hi, Nat.mod_eq_of_lt hj]

/-- A window at coordinates. -/
theorem at2_window (X : (⟨2, ![a, b]⟩ : Shape).Idx → α) {o0 o1 : ℕ} (inb : ∀ x, (![o0, o1] : Fin 2 → ℕ) x + (![m, n] : Fin 2 → ℕ) x ≤ (![a, b] : Fin 2 → ℕ) x)
    {i j : ℕ} (hi : i < m) (hj : j < n) :
    at2 (VecWindow.window (s := ⟨2, ![a, b]⟩) X ![o0, o1] ![m, n] inb : (⟨2, ![m, n]⟩ : Shape).Idx → α) i j = at2 X (o0 + i) (o1 + j) := by
  have h0 : o0 + m ≤ a := inb 0
  have h1 : o1 + n ≤ b := inb 1
  unfold at2 VecWindow.window
  refine congrArg X (funext fun x => Fin.ext ?_)
  match x with
  | 0 =>
    show o0 + 1 * (i % m) = (o0 + i) % a
    rw [Nat.mod_eq_of_lt hi, Nat.mod_eq_of_lt (by omega), Nat.one_mul]
  | 1 =>
    show o1 + 1 * (j % n) = (o1 + j) % b
    rw [Nat.mod_eq_of_lt hj, Nat.mod_eq_of_lt (by omega), Nat.one_mul]

/-- A put at coordinates. -/
theorem at2_put (X : (⟨2, ![a, b]⟩ : Shape).Idx → α) {o0 o1 : ℕ} (w : (⟨2, ![m, n]⟩ : Shape).Idx → α) {i j : ℕ} (hi : i < a) (hj : j < b) :
    at2 (VecWindow.put (s := ⟨2, ![a, b]⟩) X ![o0, o1] ![m, n] w) i j
      = if (o0 ≤ i ∧ i < o0 + m) ∧ (o1 ≤ j ∧ j < o1 + n) then at2 w (i - o0) (j - o1) else at2 X i j := by
  by_cases h : (o0 ≤ i ∧ i < o0 + m) ∧ (o1 ≤ j ∧ j < o1 + n)
  · rw [if_pos h]
    have hall : ∀ x : Fin 2, (![o0, o1] : Fin 2 → ℕ) x ≤ (ix2 (Fin.ofNat a i) (Fin.ofNat b j) x).val
        ∧ (ix2 (Fin.ofNat a i) (Fin.ofNat b j) x).val < (![o0, o1] : Fin 2 → ℕ) x + (![m, n] : Fin 2 → ℕ) x := fun x => by
      match x with
      | 0 => show o0 ≤ i % a ∧ i % a < o0 + m; rw [Nat.mod_eq_of_lt hi]; exact h.1
      | 1 => show o1 ≤ j % b ∧ j % b < o1 + n; rw [Nat.mod_eq_of_lt hj]; exact h.2
    have e : at2 (VecWindow.put (s := ⟨2, ![a, b]⟩) X ![o0, o1] ![m, n] w) i j = w (Rect.unitLocal (s := ⟨2, ![a, b]⟩) (off := ![o0, o1]) (size := ![m, n]) (ix2 (Fin.ofNat a i) (Fin.ofNat b j)) hall) := dif_pos hall
    rw [e]
    unfold at2
    refine congrArg w (funext fun x => Fin.ext ?_)
    match x with
    | 0 =>
      show i % a - o0 = (i - o0) % m
      rw [Nat.mod_eq_of_lt hi, Nat.mod_eq_of_lt (by omega)]
    | 1 =>
      show j % b - o1 = (j - o1) % n
      rw [Nat.mod_eq_of_lt hj, Nat.mod_eq_of_lt (by omega)]
  · rw [if_neg h]
    refine dif_neg fun hall => h ?_
    have h0 := hall 0
    have h1 := hall 1
    have h0 : o0 ≤ i % a ∧ i % a < o0 + m := h0
    have h1 : o1 ≤ j % b ∧ j % b < o1 + n := h1
    rw [Nat.mod_eq_of_lt hi] at h0
    rw [Nat.mod_eq_of_lt hj] at h1
    exact ⟨h0, h1⟩

/-- An updated slice at coordinates. -/
theorem at2_updateSlice (X : (⟨2, ![a, b]⟩ : Shape).Idx → α) {o0 o1 : ℕ} (w : (⟨2, ![m, n]⟩ : Shape).Idx → α)
    (hs : (⟨2, ![a, b]⟩ : Shape).Slices ![o0, o1] ⟨2, ![m, n]⟩) {i j : ℕ} (hi : i < a) (hj : j < b) :
    at2 (updateSlice X w ![o0, o1] hs) i j
      = if (o0 ≤ i ∧ i < o0 + m) ∧ (o1 ≤ j ∧ j < o1 + n) then at2 w (i - o0) (j - o1) else at2 X i j := by
  rw [← at2_put X w hi hj]
  exact congrFun (VecWindow.put_eq_updateSlice (s := ⟨2, ![a, b]⟩) X ![o0, o1] ![m, n] hs.2 w).symm _

/-- The window of the whole array is the array. -/
theorem window_full {s : Shape} (X : s.Idx → α) (off : Fin s.rank → ℕ) (inb : ∀ a, off a + s.size a ≤ s.size a) :
    VecWindow.window X off s.size inb = X :=
  funext fun y => congrArg X (Rect.emb_unit_full inb y)

/-- Putting a whole array replaces it. -/
theorem put_full {s : Shape} (X : s.Idx → α) (off : Fin s.rank → ℕ) (inb : ∀ a, off a + s.size a ≤ s.size a) (w : s.Idx → α) :
    VecWindow.put X off s.size w = w := by
  funext y
  have hall : ∀ x, off x ≤ (y x).val ∧ (y x).val < off x + s.size x := fun x => by have := inb x; have := (y x).isLt; omega
  refine (dif_pos hall).trans (congrArg w (funext fun x => Fin.ext ?_))
  show (y x).val - off x = (y x).val
  have := inb x
  omega

end Cert.Attn
end
-- ==== Proof.Steps.lean ====
module
public import proofs.«01_k».proof.Proof.Wp
public import proofs.«01_k».proof.Proof.At
/-!
# The loads and stores of the body, buffer by buffer
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn Gen
variable {F : FTy → Type} [FloatOps F]
variable {c : Dev nD} {R : Refs} {α β : Type} {s s' s'' : State F}

/-- Buffer `m`, held at `X`, is one of the twelve: it can be taken out and put back at `Y`. -/
def Part (c : Dev nD) (R : Refs) {cs : Space} {sh : Shape} {e : EltTy} (m : Memref sig .tc cs sh e) (q : PosShare TreeShare)
    (X Y : sh.Idx → Elt F e) (s s' : State F) : Prop :=
  holds c R s ⊢ iprop(owns (c.tc : Thread nD τ) m q X ∗ (owns (c.tc : Thread nD τ) m q Y -∗ holds c R s'))

/-- A load from one of the buffers. -/
theorem Part.load {cs : CoreSpace} {sh : Shape} {e : EltTy} {m : Memref sig .tc cs sh e} {q : PosShare TreeShare} {X : sh.Idx → Elt F e}
    (h : Part c R m q X X s s) {off size : Fin sh.rank → ℕ} (inb : ∀ a, off a + size a ≤ sh.size a)
    {hl : m.view.LoadsAt (Rect.unit off size inb).toLoadRect} :
    Runs c R (Prog.lift (.load m (Rect.unit off size inb).toLoadRect hl)) s (VecWindow.window X off size inb) s := by
  intro Q
  refine .trans ?_ (bwp_load c m inb q X Q)
  iintro ⟨H, HQ⟩
  ihave H' := (show holds c R s ⊢ _ from h) $$ H
  icases H' with ⟨Ho, Hk⟩
  isplitl [Ho]; · iexact Ho
  iintro Ho
  iapply HQ
  iapply Hk $$ Ho

/-- A load of one word of a table. -/
theorem Part.smem {sh : Shape} {e : EltTy} {m : Memref sig .tc .smem sh e} {q : PosShare TreeShare} {X : sh.Idx → Elt F e}
    (h : Part c R m q X X s s) {off size : Fin sh.rank → ℕ} (inb : ∀ a, off a + size a ≤ sh.size a)
    (h1 : (Rect.unit off size inb).shape.numel = 1) (hp : e.packing = 1) :
    Runs c R (smemLoad m (Rect.unit off size inb) h1 hp) s
      (VecWindow.window X off size inb (Shape.Idx.first (h1.symm ▸ Nat.one_pos))) s := by
  intro Q
  refine .trans ?_ (bwp_smem c m inb h1 hp q X Q)
  iintro ⟨H, HQ⟩
  ihave H' := (show holds c R s ⊢ _ from h) $$ H
  icases H' with ⟨Ho, Hk⟩
  isplitl [Ho]; · iexact Ho
  iintro Ho
  iapply HQ
  iapply Hk $$ Ho

/-- A store to one of the buffers. -/
theorem Part.store {cs : CoreSpace} {sh : Shape} {e : EltTy} {m : Memref sig .tc cs sh e} {X : sh.Idx → Elt F e}
    {off size : Fin sh.rank → ℕ} {inb : ∀ a, off a + size a ≤ sh.size a} {w : (Rect.unit off size inb).shape.Idx → Elt F e}
    (h : Part c R m fullShare X (VecWindow.put X off size w) s s')
    {hx : (m.access (Rect.unit off size inb)).Stores Finset.univ} {hm : Finset.univ = Finset.univ ∨ ∀ a, (Rect.unit off size inb).stride a = 1} :
    Runs c R (Prog.lift (.store m (Rect.unit off size inb) w Finset.univ hx hm)) s ⟨⟩ s' := by
  intro Q
  refine .trans ?_ (bwp_store c m inb X Q)
  iintro ⟨H, HQ⟩
  ihave H' := (show holds c R s ⊢ _ from h) $$ H
  icases H' with ⟨Ho, Hk⟩
  isplitl [Ho]; · iexact Ho
  iintro Ho
  iapply HQ
  iapply Hk $$ Ho

/-- The buffer of the encoder lengths. -/
theorem part_el (Y : Vec F S4 .i32) : Part c R R.a1 fullShare.right s.el Y s { s with el := Y } := by
  unfold Part holds
  iintro ⟨H1, H2, H3, H4, H5, H6, H7, H8, H9, H10, H11, H12⟩
  iframe H1
  iintro Hn
  iframe

/-- The buffer of the decoder lengths. -/
theorem part_dl (Y : Vec F S4 .i32) : Part c R R.a2 fullShare.right s.dl Y s { s with dl := Y } := by
  unfold Part holds
  iintro ⟨H1, H2, H3, H4, H5, H6, H7, H8, H9, H10, H11, H12⟩
  iframe H2
  iintro Hn
  iframe

/-- The buffer of the encoder rows. -/
theorem part_enc (Y : Vec F S4x128x256 .f32) : Part c R R.a3 fullShare s.enc Y s { s with enc := Y } := by
  unfold Part holds
  iintro ⟨H1, H2, H3, H4, H5, H6, H7, H8, H9, H10, H11, H12⟩
  iframe H3
  iintro Hn
  iframe

/-- The buffer of the decoder rows. -/
theorem part_dec (Y : Vec F S4x128x64 .f32) : Part c R R.a4 fullShare s.dec Y s { s with dec := Y } := by
  unfold Part holds
  iintro ⟨H1, H2, H3, H4, H5, H6, H7, H8, H9, H10, H11, H12⟩
  iframe H4
  iintro Hn
  iframe

/-- The buffer of the encoder weights. -/
theorem part_w1 (Y : Vec F S256x256 .f32) : Part c R R.a5 fullShare s.w1 Y s { s with w1 := Y } := by
  unfold Part holds
  iintro ⟨H1, H2, H3, H4, H5, H6, H7, H8, H9, H10, H11, H12⟩
  iframe H5
  iintro Hn
  iframe

/-- The buffer of the decoder weights. -/
theorem part_w2 (Y : Vec F S64x256 .f32) : Part c R R.a6 fullShare s.w2 Y s { s with w2 := Y } := by
  unfold Part holds
  iintro ⟨H1, H2, H3, H4, H5, H6, H7, H8, H9, H10, H11, H12⟩
  iframe H6
  iintro Hn
  iframe

/-- The buffer of the score weights. -/
theorem part_v4 (Y : Vec F S256x4 .bf16) : Part c R R.a7 fullShare s.v4 Y s { s with v4 := Y } := by
  unfold Part holds
  iintro ⟨H1, H2, H3, H4, H5, H6, H7, H8, H9, H10, H11, H12⟩
  iframe H7
  iintro Hn
  iframe

/-- The buffer of the output block. -/
theorem part_out (Y : Vec F S128x2048 .f32) : Part c R R.a8 fullShare s.out Y s { s with out := Y } := by
  unfold Part holds
  iintro ⟨H1, H2, H3, H4, H5, H6, H7, H8, H9, H10, H11, H12⟩
  iframe H8
  iintro Hn
  iframe

/-- The buffer of the projected rows. -/
theorem part_epq (Y : Vec F S512x256 .bf16) : Part c R R.a9 fullShare s.epq Y s { s with epq := Y } := by
  unfold Part holds
  iintro ⟨H1, H2, H3, H4, H5, H6, H7, H8, H9, H10, H11, H12⟩
  iframe H9
  iintro Hn
  iframe

/-- The buffer of the packed rows. -/
theorem part_epm (Y : Vec F S64x2048 .bf16) : Part c R R.a10 fullShare s.epm Y s { s with epm := Y } := by
  unfold Part holds
  iintro ⟨H1, H2, H3, H4, H5, H6, H7, H8, H9, H10, H11, H12⟩
  iframe H10
  iintro Hn
  iframe

/-- The buffer of the block-diagonal weights. -/
theorem part_wv (Y : Vec F S2048x32 .bf16) : Part c R R.a11 fullShare s.wv Y s { s with wv := Y } := by
  unfold Part holds
  iintro ⟨H1, H2, H3, H4, H5, H6, H7, H8, H9, H10, H11, H12⟩
  iframe H11
  iintro Hn
  iframe

/-- The buffer of the repeated decoder rows. -/
theorem part_decm (Y : Vec F S128x2048 .bf16) : Part c R R.a12 fullShare s.decm Y s { s with decm := Y } := by
  unfold Part holds
  iintro ⟨H1, H2, H3, H4, H5, H6, H7, H8, H9, H10, H11, H12⟩
  iframe H12
  iintro Hn
  iframe

end Cert.KernelIdeal.Attn
end
-- ==== Proof.Prep.lean ====
module
public import proofs.«01_k».proof.Proof.Steps
/-!
# What the first grid point prepares

The projected encoder rows, the rows packed eight to a packed row, and the block-diagonal weights.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn Gen
variable {F : FTy → Type} [FloatOps F]
variable {c : Dev nD} {R : Refs} {α β : Type} {s s' s'' : State F}

/-! ## The projected rows -/

/-- Block `a` of the projected rows. -/
def encRow (x : Vec F S4x128x256 .f32) (w : Vec F S256x256 .f32) (a : ℕ) : FVec F S128x256 .bf16 :=
  encPay (VecWindow.window (s := S4x128x256) x ![a % 4, 0, 0] S1x128x256.size (inb_enc a)) w

/-- The projected rows after `n` blocks, over earlier contents `E`. -/
def encTo (E : Vec F S512x256 .bf16) (x : Vec F S4x128x256 .f32) (w : Vec F S256x256 .f32) (n : ℕ) : Vec F S512x256 .bf16 :=
  mk2 fun r l => if r < n * 128 then at2 (encRow x w (r / 128)) (r % 128) l else at2 E r l

/-- All projected rows. -/
def encAll (x : Vec F S4x128x256 .f32) (w : Vec F S256x256 .f32) : Vec F S512x256 .bf16 :=
  mk2 fun r l => at2 (encRow x w (r / 128)) (r % 128) l

/-- Before the first block nothing is projected. -/
theorem encTo_zero (E : Vec F S512x256 .bf16) (x : Vec F S4x128x256 .f32) (w : Vec F S256x256 .f32) : encTo E x w 0 = E := by
  refine ext2 fun i hi j hj => ?_
  unfold encTo
  rw [at2_mk2 _ hi hj, if_neg (by omega)]

/-- After four blocks everything is. -/
theorem encTo_four (E : Vec F S512x256 .bf16) (x : Vec F S4x128x256 .f32) (w : Vec F S256x256 .f32) : encTo E x w 4 = encAll x w := by
  refine ext2 fun i hi j hj => ?_
  unfold encTo encAll
  rw [at2_mk2 _ hi hj, at2_mk2 _ hi hj, if_pos (by omega)]

/-- One more block put in place. -/
theorem encTo_succ (E : Vec F S512x256 .bf16) (x : Vec F S4x128x256 .f32) (w : Vec F S256x256 .f32) {n : ℕ} (hn : n < 4) :
    VecWindow.put (s := S512x256) (encTo E x w n) ![n % 4 * 128, 0] S128x256.size (encRow x w n) = encTo E x w (n + 1) := by
  refine ext2 fun i hi j hj => ?_
  refine (at2_put (m := 128) (n := 256) _ _ hi hj).trans ?_
  unfold encTo
  rw [at2_mk2 _ hi hj, at2_mk2 _ hi hj]
  by_cases h : n * 128 ≤ i ∧ i < n * 128 + 128
  · rw [if_pos ⟨by omega, by omega⟩, if_pos (by omega)]
    have e : i / 128 = n := by omega
    rw [e]
    congr 1
    omega
  · rw [if_neg (by omega)]
    by_cases h' : i < n * 128
    · rw [if_pos h', if_pos (by omega)]
    · rw [if_neg h', if_neg (by omega)]

/-- One block. -/
theorem runs_encBlock {E : Vec F S512x256 .bf16} {n : ℕ} (hn : n < 4) :
    Runs c R (encBlock R n) { s with epq := encTo E s.enc s.w1 n } ⟨⟩ { s with epq := encTo E s.enc s.w1 (n + 1) } := by
  unfold encBlock
  refine .bind (Part.load (part_enc _) _) (.bind (Part.load (part_w1 _) _) (.bind (Part.load (part_epq _) _) ?_))
  refine .of_eq (Part.store (part_epq _)) rfl ?_
  rw [window_full (s := S256x256)]
  exact congrArg (fun z => { s with epq := z }) (encTo_succ E s.enc s.w1 hn)

/-- Several blocks. -/
theorem runs_encBlocks {E : Vec F S512x256 .bf16} (n : ℕ) : ∀ a : ℕ, a + n ≤ 4 →
    Runs c R (encBlocks R a n) { s with epq := encTo E s.enc s.w1 a } ⟨⟩ { s with epq := encTo E s.enc s.w1 (a + n) } := by
  induction n with
  | zero => exact fun a _ => .pure _
  | succ n ih =>
    intro a h
    refine .bind (runs_encBlock (by omega)) ?_
    have := ih (a + 1) (by omega)
    rw [show a + 1 + n = a + (n + 1) by omega] at this
    exact this

/-! ## The packed rows -/

/-- Row `q` of the projected rows. -/
def rowOf (Q : Vec F S512x256 .bf16) (q : ℕ) : FVec F S256 .bf16 :=
  shapeCast S256 (VecWindow.window (s := S512x256) Q ![q % 512, 0] S1x256.size (inb_row q)) shapeCasts_S1x256_S256

/-- The packed rows after `n` rows, over earlier contents `E`: row `q` is the `q % 8`-th part of packed row `q / 8`. -/
def packTo (Q : Vec F S512x256 .bf16) (E : Vec F S64x2048 .bf16) (n : ℕ) : Vec F S64x2048 .bf16 :=
  mk2 fun r l => if r * 8 + l / 256 < n then at2 Q (r * 8 + l / 256) (l % 256) else at2 E r l

/-- All rows packed. -/
def packAll (Q : Vec F S512x256 .bf16) : Vec F S64x2048 .bf16 := mk2 fun r l => at2 Q (r * 8 + l / 256) (l % 256)

/-- Before the first row nothing is packed. -/
theorem packTo_zero (Q : Vec F S512x256 .bf16) (E : Vec F S64x2048 .bf16) : packTo Q E 0 = E := by
  refine ext2 fun i hi j hj => ?_
  unfold packTo
  rw [at2_mk2 _ hi hj, if_neg (by omega)]

/-- After 512 rows everything is. -/
theorem packTo_all (Q : Vec F S512x256 .bf16) (E : Vec F S64x2048 .bf16) : packTo Q E 512 = packAll Q := by
  refine ext2 fun i hi j hj => ?_
  unfold packTo packAll
  rw [at2_mk2 _ hi hj, at2_mk2 _ hi hj, if_pos (by omega)]

/-- One more row put in place. -/
theorem packTo_succ (Q : Vec F S512x256 .bf16) (E : Vec F S64x2048 .bf16) {n : ℕ} (hn : n < 512) :
    VecWindow.put (s := S64x2048) (packTo Q E n) ![2 * (n / 16 % 32), n % 8 * 256] S2x256.size
      (updateSlice (VecWindow.window (s := S64x2048) (packTo Q E n) ![2 * (n / 16 % 32), n % 8 * 256] S2x256.size (inb_pair n))
        (shapeCast S1x256 (rowOf Q n) shapeCasts_S256_S1x256) ![n / 8 % 2, 0] (slices_pair n)) = packTo Q E (n + 1) := by
  refine ext2 fun i hi j hj => ?_
  refine (at2_put (m := 2) (n := 256) _ _ hi hj).trans ?_
  unfold rowOf
  rw [shapeCast_shapeCast]
  by_cases h : (2 * (n / 16 % 32) ≤ i ∧ i < 2 * (n / 16 % 32) + 2) ∧ (n % 8 * 256 ≤ j ∧ j < n % 8 * 256 + 256)
  · rw [if_pos h]
    refine (at2_updateSlice (a := 2) (b := 256) (m := 1) (n := 256) _ _ _ (by omega) (by omega)).trans ?_
    by_cases h' : i = n / 8
    · rw [if_pos ⟨by omega, by omega⟩]
      refine (at2_window (m := 1) (n := 256) Q _ (by omega) (by omega)).trans ?_
      unfold packTo
      rw [at2_mk2 _ hi hj, if_pos (by omega)]
      congr 1
      · omega
      · omega
    · rw [if_neg (by omega)]
      refine (at2_window (m := 2) (n := 256) (packTo Q E n) _ (by omega) (by omega)).trans ?_
      rw [show 2 * (n / 16 % 32) + (i - 2 * (n / 16 % 32)) = i by omega, show n % 8 * 256 + (j - n % 8 * 256) = j by omega]
      unfold packTo
      rw [at2_mk2 _ hi hj, at2_mk2 _ hi hj]
      by_cases h2 : i * 8 + j / 256 < n
      · rw [if_pos h2, if_pos (by omega)]
      · rw [if_neg h2, if_neg (by omega)]
  · rw [if_neg h]
    unfold packTo
    rw [at2_mk2 _ hi hj, at2_mk2 _ hi hj]
    by_cases h2 : i * 8 + j / 256 < n
    · rw [if_pos h2, if_pos (by omega)]
    · rw [if_neg h2, if_neg (by omega)]

/-- Reading a row. -/
theorem runs_rowLoad (q : ℕ) : Runs c R (rowLoad R q) s (rowOf s.epq q) s := by
  unfold rowLoad
  exact .bind (Part.load (part_epq _) _) (.bind (Part.load (part_epm _) _) (.pure _))

/-- Writing the row just read. -/
theorem runs_rowStore {E : Vec F S64x2048 .bf16} {q : ℕ} (hq : q < 512) :
    Runs c R (rowStore R q (rowOf s.epq q)) { s with epm := packTo s.epq E q } ⟨⟩ { s with epm := packTo s.epq E (q + 1) } := by
  have h : Runs c R (rowStore R q (rowOf s.epq q)) { s with epm := packTo s.epq E q } ⟨⟩ _ :=
    .bind (Part.load (part_epm _) _) (Part.store (part_epm _))
  refine h.of_eq rfl ?_
  exact congrArg (fun z => { s with epm := z }) (packTo_succ s.epq E hq)

/-- Copying rows. -/
theorem runs_copyRows {E : Vec F S64x2048 .bf16} (n : ℕ) : ∀ q : ℕ, q + n ≤ 512 →
    Runs c R (copyRows R q n) { s with epm := packTo s.epq E q } ⟨⟩ { s with epm := packTo s.epq E (q + n) } := by
  induction n with
  | zero => exact fun q _ => .pure _
  | succ n ih =>
    intro q h
    refine .bind (.bind (runs_rowLoad q) (runs_rowStore (by omega))) ?_
    have := ih (q + 1) (by omega)
    rw [show q + 1 + n = q + (n + 1) by omega] at this
    exact this

/-- Six rows. -/
theorem runs_six {E : Vec F S64x2048 .bf16} {q : ℕ} (h : q + 6 ≤ 512) :
    Runs c R (six R q (rowOf s.epq q)) { s with epm := packTo s.epq E q } (rowOf s.epq (q + 6)) { s with epm := packTo s.epq E (q + 6) } :=
  .bind (runs_rowStore (by omega)) (.bind (runs_copyRows 5 (q + 1) (by omega)) (runs_rowLoad (q + 6)))

/-- Several times six rows. -/
theorem runs_sixes {E : Vec F S64x2048 .bf16} (n : ℕ) : ∀ q : ℕ, q + 6 * n ≤ 512 →
    Runs c R (sixes R q n (rowOf s.epq q)) { s with epm := packTo s.epq E q } (rowOf s.epq (q + 6 * n)) { s with epm := packTo s.epq E (q + 6 * n) } := by
  induction n with
  | zero => exact fun q _ => .pure _
  | succ n ih =>
    intro q h
    refine .bind (runs_six (by omega)) ?_
    have := ih (q + 6) (by omega)
    rw [show q + 6 + 6 * n = q + 6 * (n + 1) by omega] at this
    exact this

/-! ## The block-diagonal weights -/

/-- The weights after `n` diagonal blocks. -/
def wvTo (v : Vec F S256x4 .bf16) (n : ℕ) : Vec F S2048x32 .bf16 :=
  mk2 fun k l => if k / 256 < n ∧ k / 256 = l / 4 then at2 v (k % 256) (l % 4) else Scalar.ofBits .bf16 0x0000#16

/-- One more block on the diagonal. -/
theorem wvTo_succ (v : Vec F S256x4 .bf16) {n : ℕ} (hn : n < 8) :
    VecWindow.put (s := S2048x32) (wvTo v n) ![n % 8 * 256, n % 8 * 4] S256x4.size v = wvTo v (n + 1) := by
  refine ext2 fun i hi j hj => ?_
  refine (at2_put (m := 256) (n := 4) _ _ hi hj).trans ?_
  unfold wvTo
  rw [at2_mk2 _ hi hj, at2_mk2 _ hi hj]
  by_cases h : (n % 8 * 256 ≤ i ∧ i < n % 8 * 256 + 256) ∧ (n % 8 * 4 ≤ j ∧ j < n % 8 * 4 + 4)
  · rw [if_pos h, if_pos (by omega)]
    congr 1
    · omega
    · omega
  · rw [if_neg h]
    by_cases h2 : i / 256 < n ∧ i / 256 = j / 4
    · rw [if_pos h2, if_pos (by omega)]
    · rw [if_neg h2, if_neg (by omega)]

/-- The zeros. -/
theorem runs_wvZero : Runs c R (wvZero R) s ⟨⟩ { s with wv := wvTo s.v4 0 } := by
  unfold wvZero
  refine .of_eq (.bind (Part.load (part_wv _) _) (Part.store (part_wv _))) rfl ?_
  rw [put_full (s := S2048x32) _ _ inb_S2048x32_S2048x32_0_0, shapeCast_id]
  refine congrArg (fun z => { s with wv := z }) ?_
  refine ext2 fun i hi j hj => ?_
  unfold wvTo
  rw [at2_mk2 _ hi hj, if_neg (by omega)]
  rfl

/-- The diagonal blocks. -/
theorem runs_wvBlocks (n : ℕ) : ∀ a : ℕ, a + n ≤ 8 →
    Runs c R (wvBlocks R a n) { s with wv := wvTo s.v4 a } ⟨⟩ { s with wv := wvTo s.v4 (a + n) } := by
  induction n with
  | zero => exact fun a _ => .pure _
  | succ n ih =>
    intro a h
    have hb : Runs c R (wvBlock R a) { s with wv := wvTo s.v4 a } ⟨⟩ { s with wv := wvTo s.v4 (a + 1) } := by
      unfold wvBlock
      refine .of_eq (.bind (Part.load (part_v4 _) _) (.bind (Part.load (part_wv _) _) (Part.store (part_wv _)))) rfl ?_
      rw [window_full (s := S256x4), shapeCast_id, shapeCast_id]
      exact congrArg (fun z => { s with wv := z }) (wvTo_succ s.v4 (n := a) (by omega))
    refine .bind hb ?_
    have := ih (a + 1) (by omega)
    rw [show a + 1 + n = a + (n + 1) by omega] at this
    exact this

/-- The packed projected rows. -/
def epmOf (s : State F) : Vec F S64x2048 .bf16 := packAll (encAll s.enc s.w1)

/-- The contents after the preparation. -/
def prepped (s : State F) : State F :=
  { s with epq := encAll s.enc s.w1, epm := epmOf s, wv := wvTo s.v4 8 }

/-- The preparation. -/
theorem runs_prep : Runs c R (prep R) s ⟨⟩ (prepped s) := by
  have h1 : Runs c R (encBlocks R 0 4) s ⟨⟩ { s with epq := encAll s.enc s.w1 } := by
    have := runs_encBlocks (c := c) (R := R) (s := s) (E := s.epq) 4 0 (by omega)
    rw [encTo_zero, show 0 + 4 = 4 from rfl, encTo_four] at this
    exact this
  have h2 : Runs c R (copyRows R 0 4) { s with epq := encAll s.enc s.w1 } ⟨⟩ { s with epq := encAll s.enc s.w1, epm := packTo (encAll s.enc s.w1) s.epm 4 } := by
    have := runs_copyRows (c := c) (R := R) (s := { s with epq := encAll s.enc s.w1 }) (E := s.epm) 4 0 (by omega)
    rw [packTo_zero] at this
    exact this
  have h3 := runs_sixes (c := c) (R := R) (s := { s with epq := encAll s.enc s.w1 }) (E := s.epm) 84 4 (by omega)
  have h4 := runs_rowStore (c := c) (R := R) (s := { s with epq := encAll s.enc s.w1 }) (E := s.epm) (q := 508) (by omega)
  have h5 := runs_copyRows (c := c) (R := R) (s := { s with epq := encAll s.enc s.w1 }) (E := s.epm) 3 509 (by omega)
  have h6 := runs_wvZero (c := c) (R := R) (s := { s with epq := encAll s.enc s.w1, epm := packTo (encAll s.enc s.w1) s.epm 512 })
  have h7 := runs_wvBlocks (c := c) (R := R) (s := { s with epq := encAll s.enc s.w1, epm := packTo (encAll s.enc s.w1) s.epm 512 }) 8 0 (by omega)
  have e : prepped s = { s with epq := encAll s.enc s.w1, epm := packTo (encAll s.enc s.w1) s.epm 512, wv := wvTo s.v4 8 } := by
    unfold prepped epmOf
    rw [packTo_all]
  rw [e]
  exact .bind h1 (.bind h2 (.bind (runs_rowLoad 4) (.bind h3 (.bind h4 (.bind h5 (.bind h6 h7))))))

end Cert.KernelIdeal.Attn
end
-- ==== Proof.Tile.lean ====
module
public import proofs.«01_k».proof.Proof.Prep
/-!
# What a grid point leaves in its output block

Batch by batch: the decoder rows are projected and repeated, the groups of 32 encoder positions below the encoder
length are scored, and the scores are turned into a masked softmax.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn Gen
variable {F : FTy → Type} [FloatOps F]
variable {c : Dev nD} {R : Refs} {α β : Type} {s s' s'' : State F}

/-! ## The decoder rows -/

/-- The first `n` columns hold `P` repeated, over earlier contents `E`. -/
def repTo (P : FVec F S128x256 .bf16) (E : Vec F S128x2048 .bf16) (n : ℕ) : Vec F S128x2048 .bf16 :=
  mk2 fun r l => if l < n then at2 P r (l % 256) else at2 E r l

/-- `P` eight times side by side. -/
def rep (P : FVec F S128x256 .bf16) : Vec F S128x2048 .bf16 := mk2 fun r l => at2 P r (l % 256)

/-- After 2048 columns all eight copies are there. -/
theorem repTo_all (P : FVec F S128x256 .bf16) (E : Vec F S128x2048 .bf16) : repTo P E 2048 = rep P := by
  refine ext2 fun i hi j hj => ?_
  unfold repTo rep
  rw [at2_mk2 _ hi hj, at2_mk2 _ hi hj, if_pos hj]

/-- The first copy. -/
theorem repTo_first (P : FVec F S128x256 .bf16) (E : Vec F S128x2048 .bf16) :
    VecWindow.put (s := S128x2048) E ![0, 0] ![128, 256] P = repTo P E 256 := by
  refine ext2 fun i hi j hj => ?_
  refine (at2_put (m := 128) (n := 256) _ _ hi hj).trans ?_
  unfold repTo
  rw [at2_mk2 _ hi hj]
  by_cases h : j < 256
  · rw [if_pos ⟨by omega, by omega⟩, if_pos h]
    congr 1
    omega
  · rw [if_neg (by omega), if_neg h]

/-- Copying the first `n` columns after themselves doubles what is filled. -/
theorem repTo_double (P : FVec F S128x256 .bf16) (E : Vec F S128x2048 .bf16) {n : ℕ} [NeZero n] (hn : n % 256 = 0) (hle : n + n ≤ 2048)
    (inb : ∀ x, (![0, 0] : Fin 2 → ℕ) x + (![128, n] : Fin 2 → ℕ) x ≤ (![128, 2048] : Fin 2 → ℕ) x) :
    VecWindow.put (s := S128x2048) (repTo P E n) ![0, n] ![128, n] (VecWindow.window (s := S128x2048) (repTo P E n) ![0, 0] ![128, n] inb)
      = repTo P E (n + n) := by
  refine ext2 fun i hi j hj => ?_
  refine (at2_put (m := 128) (n := n) _ _ hi hj).trans ?_
  by_cases h : n ≤ j ∧ j < n + n
  · rw [if_pos ⟨by omega, h⟩]
    refine (at2_window (m := 128) (n := n) (repTo P E n) inb (by omega) (by omega)).trans ?_
    unfold repTo
    rw [at2_mk2 _ (by omega) (by omega), at2_mk2 _ hi hj, if_pos (by omega), if_pos (by omega)]
    congr 1
    · omega
    · omega
  · rw [if_neg (by omega)]
    unfold repTo
    rw [at2_mk2 _ hi hj, at2_mk2 _ hi hj]
    by_cases h2 : j < n
    · rw [if_pos h2, if_pos (by omega)]
    · rw [if_neg h2, if_neg (by omega)]

/-- The projected decoder rows of batch `b`. -/
def decRow (s : State F) (b : ℕ) : FVec F S128x256 .bf16 :=
  decPay (VecWindow.window (s := S4x128x64) s.dec ![b % 4, 0, 0] S1x128x64.size (inb_dec b)) s.w2

/-- Projecting and repeating the decoder rows. -/
theorem runs_decTile (b : ℕ) : Runs c R (decTile R b) s (rep (decRow s b)) { s with decm := rep (decRow s b) } := by
  have h1 : VecWindow.put (s := S128x2048) s.decm ![0, 0] S128x256.size (decRow s b) = repTo (decRow s b) s.decm 256 := repTo_first _ _
  have h2 : VecWindow.put (s := S128x2048) (repTo (decRow s b) s.decm 256) ![0, 256] S128x256.size
      (shapeCast S128x256 (VecWindow.window (s := S128x2048) (repTo (decRow s b) s.decm 256) ![0, 0] S128x256.size inb_S128x2048_S128x256_0_0) shapeCasts_S128x256_S128x256)
      = repTo (decRow s b) s.decm 512 := by
    exact (congrArg (VecWindow.put (s := S128x2048) _ _ _) (shapeCast_id (s := S128x256) _ _)).trans (repTo_double _ _ (by omega) (by omega) _)
  have h3 : VecWindow.put (s := S128x2048) (repTo (decRow s b) s.decm 512) ![0, 512] S128x512.size
      (shapeCast S128x512 (VecWindow.window (s := S128x2048) (repTo (decRow s b) s.decm 512) ![0, 0] S128x512.size inb_S128x2048_S128x512_0_0) shapeCasts_S128x512_S128x512)
      = repTo (decRow s b) s.decm 1024 := by
    exact (congrArg (VecWindow.put (s := S128x2048) _ _ _) (shapeCast_id (s := S128x512) _ _)).trans (repTo_double _ _ (by omega) (by omega) _)
  have h4 : VecWindow.put (s := S128x2048) (repTo (decRow s b) s.decm 1024) ![0, 1024] S128x1024.size
      (shapeCast S128x1024 (VecWindow.window (s := S128x2048) (repTo (decRow s b) s.decm 1024) ![0, 0] S128x1024.size inb_S128x2048_S128x1024_0_0) shapeCasts_S128x1024_S128x1024)
      = rep (decRow s b) := by
    rw [← repTo_all _ s.decm]
    exact (congrArg (VecWindow.put (s := S128x2048) _ _ _) (shapeCast_id (s := S128x1024) _ _)).trans (repTo_double _ _ (by omega) (by omega) _)
  unfold decTile
  refine .bind (Part.load (part_dec _) _) (.bind (Part.load (part_w2 _) _) ?_)
  rw [window_full (s := S64x256)]
  refine .bind (Part.load (part_decm _) _) (.bind (s' := { s with decm := repTo (decRow s b) s.decm 256 })
    (.of_eq (Part.store (part_decm _)) rfl (congrArg (fun z => { s with decm := z }) h1)) ?_)
  refine .bind (Part.load (part_decm _) _) (.bind (Part.load (part_decm _) _) (.bind (s' := { s with decm := repTo (decRow s b) s.decm 512 })
    (.of_eq (Part.store (part_decm _)) rfl (congrArg (fun z => { s with decm := z }) h2)) ?_))
  refine .bind (Part.load (part_decm _) _) (.bind (Part.load (part_decm _) _) (.bind (s' := { s with decm := repTo (decRow s b) s.decm 1024 })
    (.of_eq (Part.store (part_decm _)) rfl (congrArg (fun z => { s with decm := z }) h3)) ?_))
  refine .bind (Part.load (part_decm _) _) (.bind (Part.load (part_decm _) _) (.bind (s' := { s with decm := rep (decRow s b) })
    (.of_eq (Part.store (part_decm _)) rfl (congrArg (fun z => { s with decm := z }) h4)) ?_))
  exact .of_eq (Part.load (part_decm _) _) (window_full (s := S128x2048) _ _ _) rfl

/-! ## The groups -/

/-- Group `k` is scored. -/
abbrev Scored (v5 : Elt F .i32) (k : ℕ) : Prop :=
  Scalar.cmpi .ne (Scalar.extui (Scalar.cmpi .sgt v5 (BitVec.ofNat 32 (k * 32))) : BitVec 32) 0#32 = 1#1

/-- The scores of group `k` of batch `b`. -/
def grpVal (s : State F) (b k : ℕ) : FVec F S128x32 .f32 :=
  grpPay (rep (decRow s b)) (VecWindow.window (s := S64x2048) s.epm ![(b * 16 + k) % 64, 0] S1x2048.size (inb_epm b k)) s.wv

/-- The scores of batch `b`, zero in the groups not scored. -/
def scores (s : State F) (v5 : Elt F .i32) (b : ℕ) : Vec F S128x512 .f32 :=
  mk2 fun r j => if Scored v5 (j / 32) then at2 (grpVal s b (j / 32)) r (j % 32) else Scalar.ofBits .f32 0x00000000#32

/-- The output block after `k` groups of batch `b`, over `O`. -/
def grpTo (O : Vec F S128x2048 .f32) (X : Vec F S128x512 .f32) (b k : ℕ) : Vec F S128x2048 .f32 :=
  mk2 fun r l => if b * 512 ≤ l ∧ l < b * 512 + k * 32 then at2 X r (l - b * 512) else at2 O r l

/-- Before the first group the block is as it was. -/
theorem grpTo_zero (O : Vec F S128x2048 .f32) (X : Vec F S128x512 .f32) (b : ℕ) : grpTo O X b 0 = O := by
  refine ext2 fun i hi j hj => ?_
  unfold grpTo
  rw [at2_mk2 _ hi hj, if_neg (by omega)]

/-- The columns of batch `b` are still zero. -/
def ZeroAt (O : Vec F S128x2048 .f32) (b : ℕ) : Prop :=
  ∀ r < 128, ∀ l < 2048, b * 512 ≤ l → l < b * 512 + 512 → at2 O r l = Scalar.ofBits .f32 0x00000000#32

/-- A scored group. -/
theorem grpTo_pos (s : State F) (v5 : Elt F .i32) (O : Vec F S128x2048 .f32) {b k : ℕ} (hb : b < 4) (hk : k < 16) (h : Scored v5 k) :
    VecWindow.put (s := S128x2048) (grpTo O (scores s v5 b) b k) ![0, b % 4 * 512 + k % 16 * 32] S128x32.size (grpVal s b k)
      = grpTo O (scores s v5 b) b (k + 1) := by
  refine ext2 fun i hi j hj => ?_
  refine (at2_put (m := 128) (n := 32) _ _ hi hj).trans ?_
  unfold grpTo
  rw [at2_mk2 _ hi hj, at2_mk2 _ hi hj]
  by_cases hin : b % 4 * 512 + k % 16 * 32 ≤ j ∧ j < b % 4 * 512 + k % 16 * 32 + 32
  · rw [if_pos ⟨by omega, hin⟩, if_pos (by omega)]
    unfold scores
    rw [at2_mk2 _ hi (by omega)]
    have e : (j - b * 512) / 32 = k := by omega
    rw [e, if_pos h]
    congr 1
    omega
  · rw [if_neg (by omega)]
    by_cases h2 : b * 512 ≤ j ∧ j < b * 512 + k * 32
    · rw [if_pos h2, if_pos (by omega)]
    · rw [if_neg h2, if_neg (by omega)]

/-- A group left out. -/
theorem grpTo_neg (s : State F) (v5 : Elt F .i32) (O : Vec F S128x2048 .f32) {b k : ℕ} (hO : ZeroAt O b) (hk : k < 16) (h : ¬ Scored v5 k) :
    grpTo O (scores s v5 b) b k = grpTo O (scores s v5 b) b (k + 1) := by
  refine ext2 fun i hi j hj => ?_
  unfold grpTo
  rw [at2_mk2 _ hi hj, at2_mk2 _ hi hj]
  by_cases h2 : b * 512 ≤ j ∧ j < b * 512 + k * 32
  · rw [if_pos h2, if_pos (by omega)]
  · rw [if_neg h2]
    by_cases h3 : b * 512 ≤ j ∧ j < b * 512 + (k + 1) * 32
    · rw [if_pos h3]
      unfold scores
      rw [at2_mk2 _ hi (by omega)]
      have e : (j - b * 512) / 32 = k := by omega
      rw [e, if_neg h]
      exact hO i hi j hj h3.1 (by omega)
    · rw [if_neg h3]

/-- The contents while batch `b` is scored, after `k` groups. -/
def during (s : State F) (v5 : Elt F .i32) (O : Vec F S128x2048 .f32) (b k : ℕ) : State F :=
  { s with out := grpTo O (scores s v5 b) b k, decm := rep (decRow s b) }

/-- One group, then the rest. -/
theorem runs_group (v5 : Elt F .i32) (O : Vec F S128x2048 .f32) {b k : ℕ} (hb : b < 4) (hk : k < 16) (hO : ZeroAt O b) {rest : BProg F α} {x : α}
    (h : Runs c R rest (during s v5 O b (k + 1)) x s') :
    Runs c R (group R b k (BitVec.ofNat 32 (k * 32)) v5 (rep (decRow s b)) rest) (during s v5 O b k) x s' := by
  unfold group
  by_cases hs : Scored v5 k
  · rw [if_pos hs]
    refine .bind (Part.load (part_epm _) _) (.bind (Part.load (part_wv _) _) ?_)
    rw [window_full (s := S2048x32)]
    refine .bind (Part.load (part_out _) _) (.bind (s' := during s v5 O b (k + 1)) (.of_eq (Part.store (part_out _)) rfl ?_) h)
    exact congrArg (fun z => { s with out := z, decm := rep (decRow s b) }) (grpTo_pos s v5 O hb hk hs)
  · rw [if_neg hs]
    have e : during s v5 O b k = during s v5 O b (k + 1) :=
      congrArg (fun z => { s with out := z, decm := rep (decRow s b) }) (grpTo_neg s v5 O hO hk hs)
    rw [e]
    exact h

/-- Several groups, then the rest. -/
theorem runs_groups (v5 : Elt F .i32) (O : Vec F S128x2048 .f32) {b : ℕ} (hb : b < 4) (hO : ZeroAt O b) {rest : BProg F α} {x : α} (n : ℕ) :
    ∀ k : ℕ, k + n ≤ 16 → Runs c R rest (during s v5 O b (k + n)) x s' →
    Runs c R (groups R b v5 (rep (decRow s b)) k n rest) (during s v5 O b k) x s' := by
  induction n with
  | zero => exact fun k _ h => h
  | succ n ih =>
    intro k hk h
    refine runs_group v5 O hb (by omega) hO (ih (k + 1) (by omega) ?_)
    rw [show k + 1 + n = k + (n + 1) by omega]
    exact h

/-! ## The tiles -/

/-- The entry of a table of lengths. -/
def lenAt (T : Vec F S4 .i32) (b : ℕ) : Elt F .i32 :=
  VecWindow.window (s := S4) T ![b % 4] S1.size (inb_len b) (Shape.Idx.first (numel1_S1.symm ▸ Nat.one_pos))

/-- Batch `b` has rows below its decoder length in this block. -/
abbrev Live (arg0 : BitVec 32) (v6 : Elt F .i32) : Prop :=
  Scalar.cmpi .ne (Scalar.extui (Scalar.cmpi .slt (Scalar.muli arg0 128#32) v6) : BitVec 32) 0#32 = 1#1

/-- What batch `b` leaves in its columns. -/
def tileVal (arg0 : BitVec 32) (s : State F) (b : ℕ) : Vec F S128x512 .f32 :=
  if Live arg0 (lenAt s.dl b) then smPay arg0 (lenAt s.el b) (lenAt s.dl b) (scores s (lenAt s.el b) b)
  else fun _ => Scalar.ofBits .f32 0x00000000#32

/-- The output block after `n` batches. -/
def outTo (arg0 : BitVec 32) (s : State F) (n : ℕ) : Vec F S128x2048 .f32 :=
  mk2 fun r l => if l < n * 512 then at2 (tileVal arg0 s (l / 512)) r (l % 512) else Scalar.ofBits .f32 0x00000000#32

/-- The repeated decoder rows left after `n` batches. -/
def decmTo (arg0 : BitVec 32) (s : State F) : ℕ → Vec F S128x2048 .bf16
  | 0 => s.decm
  | b + 1 => if Live arg0 (lenAt s.dl b) then rep (decRow s b) else decmTo arg0 s b

/-- The contents after `n` batches. -/
def after (arg0 : BitVec 32) (s : State F) (n : ℕ) : State F := { s with out := outTo arg0 s n, decm := decmTo arg0 s n }

/-- The batches not yet treated are still zero. -/
theorem zeroAt_outTo (arg0 : BitVec 32) (s : State F) (b : ℕ) : ZeroAt (outTo arg0 s b) b := by
  intro r hr l hl h1 h2
  unfold outTo
  rw [at2_mk2 _ hr hl, if_neg (by omega)]

/-- A live batch's columns are put in place. -/
theorem outTo_pos (arg0 : BitVec 32) (s : State F) {b : ℕ} (hb : b < 4) (h : Live arg0 (lenAt s.dl b)) :
    VecWindow.put (s := S128x2048) (grpTo (outTo arg0 s b) (scores s (lenAt s.el b) b) b 16) ![0, b % 4 * 512] S128x512.size
      (smPay arg0 (lenAt s.el b) (lenAt s.dl b)
        (VecWindow.window (s := S128x2048) (grpTo (outTo arg0 s b) (scores s (lenAt s.el b) b) b 16) ![0, b % 4 * 512] S128x512.size (inb_out b)))
      = outTo arg0 s (b + 1) := by
  have e : VecWindow.window (s := S128x2048) (grpTo (outTo arg0 s b) (scores s (lenAt s.el b) b) b 16) ![0, b % 4 * 512] S128x512.size (inb_out b)
      = scores s (lenAt s.el b) b := by
    refine ext2 (a := 128) (b := 512) fun i hi j hj => ?_
    refine (at2_window (m := 128) (n := 512) (grpTo (outTo arg0 s b) (scores s (lenAt s.el b) b) b 16) _ hi hj).trans ?_
    unfold grpTo
    rw [at2_mk2 _ (by omega) (by omega), if_pos (by omega)]
    congr 1
    · omega
    · omega
  rw [e]
  refine ext2 fun i hi j hj => ?_
  refine (at2_put (m := 128) (n := 512) _ _ hi hj).trans ?_
  unfold grpTo
  rw [at2_mk2 _ hi hj]
  unfold outTo
  rw [at2_mk2 _ hi hj, at2_mk2 _ hi hj]
  by_cases hin : b % 4 * 512 ≤ j ∧ j < b % 4 * 512 + 512
  · rw [if_pos ⟨by omega, hin⟩, if_pos (by omega)]
    have e : j / 512 = b := by omega
    rw [e]
    unfold tileVal
    rw [if_pos h]
    congr 1
    omega
  · rw [if_neg (by omega), if_neg (by omega)]
    by_cases h2 : j < b * 512
    · rw [if_pos h2, if_pos (by omega)]
    · rw [if_neg h2, if_neg (by omega)]

/-- A batch left out. -/
theorem outTo_neg (arg0 : BitVec 32) (s : State F) {b : ℕ} (h : ¬ Live arg0 (lenAt s.dl b)) : outTo arg0 s b = outTo arg0 s (b + 1) := by
  refine ext2 fun i hi j hj => ?_
  unfold outTo
  rw [at2_mk2 _ hi hj, at2_mk2 _ hi hj]
  by_cases h2 : j < b * 512
  · rw [if_pos h2, if_pos (by omega)]
  · rw [if_neg h2]
    by_cases h3 : j < (b + 1) * 512
    · rw [if_pos h3]
      have e : j / 512 = b := by omega
      rw [e]
      unfold tileVal
      rw [if_neg h]
      rfl
    · rw [if_neg h3]

/-- One batch, then the rest. -/
theorem runs_tile (arg0 : BitVec 32) {b : ℕ} (hb : b < 4) {rest : BProg F α} {x : α} (h : Runs c R rest (after arg0 s (b + 1)) x s') :
    Runs c R (tile R b arg0 rest) (after arg0 s b) x s' := by
  have hO := zeroAt_outTo arg0 s b
  unfold tile
  refine .bind (x := lenAt s.el b) (Part.smem (part_el _) _ _ _) (.bind (x := lenAt s.dl b) (Part.smem (part_dl _) _ _ _) ?_)
  by_cases hl : Live arg0 (lenAt s.dl b)
  · rw [if_pos hl]
    have hd : Runs c R (decTile R b) (after arg0 s b) (rep (decRow s b)) (during s (lenAt s.el b) (outTo arg0 s b) b 0) := by
      refine (runs_decTile (s := after arg0 s b) b).of_eq rfl ?_
      unfold during
      rw [grpTo_zero]
      rfl
    have h0 : Runs c R (tileHead R b (lenAt s.el b)) (after arg0 s b) ⟨rep (decRow s b), 64#32⟩ (during s (lenAt s.el b) (outTo arg0 s b) b 2) :=
      .bind hd (runs_groups _ _ hb hO 2 0 (by omega) (.pure _))
    have h1 : Runs c R (tileMid R b (lenAt s.el b) (rep (decRow s b)) 64#32) (during s (lenAt s.el b) (outTo arg0 s b) b 2) 384#32
        (during s (lenAt s.el b) (outTo arg0 s b) b 12) :=
      runs_group _ _ hb (by omega) hO (runs_groups _ _ hb hO 9 3 (by omega) (.pure _))
    have h2 : Runs c R (tileTail R b arg0 (lenAt s.el b) (lenAt s.dl b) (rep (decRow s b)) 384#32) (during s (lenAt s.el b) (outTo arg0 s b) b 12)
        (smPay arg0 (lenAt s.el b) (lenAt s.dl b)
          (VecWindow.window (s := S128x2048) (during s (lenAt s.el b) (outTo arg0 s b) b 16).out ![0, b % 4 * 512] S128x512.size (inb_out b)))
        (during s (lenAt s.el b) (outTo arg0 s b) b 16) :=
      runs_group _ _ hb (by omega) hO (runs_groups _ _ hb hO 3 13 (by omega)
        (.bind (Part.load (part_out _) _) (.bind (Part.load (part_out _) _) (.pure _))))
    refine .bind h0 (.bind h1 (.bind h2 (.bind (s' := after arg0 s (b + 1)) (.of_eq (Part.store (part_out _)) rfl ?_) h)))
    unfold after during decmTo
    rw [if_pos hl]
    exact congrArg (fun z => { s with out := z, decm := rep (decRow s b) }) (outTo_pos arg0 s hb hl)
  · rw [if_neg hl]
    have e : after arg0 s b = after arg0 s (b + 1) := by
      unfold after
      rw [← outTo_neg arg0 s hl, show decmTo arg0 s (b + 1) = decmTo arg0 s b from if_neg hl]
    rw [e]
    exact h

/-- The four batches. -/
theorem runs_tiles (arg0 : BitVec 32) : Runs c R (tiles R arg0) (after arg0 s 0) ⟨⟩ (after arg0 s 4) :=
  runs_tile arg0 (by omega) (runs_tile arg0 (by omega) (runs_tile arg0 (by omega) (runs_tile arg0 (by omega) (.pure _))))

/-- The output block at zero. -/
theorem runs_zeroOut (arg0 : BitVec 32) : Runs c R (zeroOut R) s ⟨⟩ { s with out := fun _ => Scalar.ofBits .f32 0x00000000#32 } := by
  unfold zeroOut
  refine .of_eq (.bind (Part.load (part_out _) _) (Part.store (part_out _))) rfl ?_
  rw [put_full (s := S128x2048) _ _ inb_S128x2048_S128x2048_0_0]
  rfl

/-- With the output block at zero no batch has been treated. -/
theorem after_zero (arg0 : BitVec 32) (s : State F) : after arg0 s 0 = { s with out := fun _ => Scalar.ofBits .f32 0x00000000#32 } := by
  unfold after
  refine congrArg (fun z => { s with out := z }) ?_
  refine ext2 fun i hi j hj => ?_
  unfold outTo
  rw [at2_mk2 _ hi hj, if_neg (by omega)]
  rfl

/-- The first grid point. -/
abbrev First (i : grid0.Coords) : Prop :=
  Scalar.cmpi .ne (Scalar.extui (Scalar.cmpi .eq (BitVec.ofNat 32 (i 0).val) 0#32) : BitVec 32) 0#32 = 1#1

/-- The contents a grid point leaves. -/
def left (i : grid0.Coords) (s : State F) : State F :=
  after (BitVec.ofNat 32 (i 0).val) (if First i then prepped s else s) 4

/-- The whole body. -/
theorem runs_body (i : grid0.Coords) : Runs c R (body R i) s ⟨⟩ (left i s) := by
  unfold body left
  refine .bind (runs_zeroOut 0#32) ?_
  by_cases h : First i
  · rw [if_pos h, if_pos h]
    refine .bind runs_prep ?_
    have := runs_tiles (c := c) (R := R) (s := prepped s) (BitVec.ofNat 32 (i 0).val)
    rw [after_zero] at this
    exact this
  · rw [if_neg h, if_neg h]
    have := runs_tiles (c := c) (R := R) (s := s) (BitVec.ofNat 32 (i 0).val)
    rw [after_zero] at this
    exact this

end Cert.KernelIdeal.Attn
end
-- ==== Proof.BodyEq.lean ====
module
public import proofs.«01_k».proof.Proof.Body
@[expose] public section
noncomputable section
namespace Cert.KernelIdeal.Attn
open Idealize.ShloMosaic Idealize.SL.Sem
variable {F : FTy → Type} [FloatOps F]

/-- The printed kernel body is the short program of `Body`. -/
theorem body_eq (i : grid0.Coords) (R : Refs) :
    (cc0__attn_block_kernel i R.a1 R.h1 R.a2 R.h2 R.a3 R.h3 R.a4 R.h4 R.a5 R.h5 R.a6 R.h6 R.a7 R.h7 R.a8 R.h8
      R.a9 R.h9 R.a10 R.h10 R.a11 R.h11 R.a12 R.h12 : BProg F PUnit) = body R i := by chain_rfl

end Cert.KernelIdeal.Attn
end
-- ==== Proof.Data.lean ====
module
public import proofs.«01_k».proof.Proof.Tile
public import proofs.«01_k».proof.Proof.BodyEq
public import proofs.«01_k».proof.Proof.Gen.KernelIdeal.Launch
public import Idealize.ShloMosaic.Lib.Pipeline.Frame
public import Idealize.ShloMosaic.Lib.Pipeline.Value
/-!
# What the launch holds from one grid point to the next

The contents of every buffer when the kernel is launched, what each window's buffer holds when the body runs, what
the body leaves in it, and what the scratch arrays carry from the first point on.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn
variable {F : FTy → Type} [FloatOps F]

/-- The memory of the machine before the program. -/
abbrev Mem (F : FTy → Type) [FloatOps F] : Type := (ℓ : Loc nD τ sig) → Buf (Elt F) ℓ

/-- The host operations before the launch, stretch by stretch. -/
abbrev hostss : List (List (HloOp τ sig (Elt F))) :=
  [Gen.hostOps0, Gen.hostOps0_1, Gen.hostOps0_2, Gen.hostOps0_3, Gen.hostOps0_4]

/-- The contents of the buffers when the kernel is launched. -/
def entryMem (m : Mem F) (c : Dev nD) : (b : Ref sig .tc) → Buf (Elt F) ((c.tc : Thread nD τ).loc b) :=
  fun b => StableHlo.after (hostss (F := F)).flatten (fun b => m (c, b)) b

/-- The tables the launch reads. -/
def tables (m : Mem F) : (p : Fin 1) → (pcfgs (F := F) p).Adm :=
  fun _ => ⟨fun | 0 => entryMem m 0 main_arg5 | 1 => entryMem m 0 main_arg6 | ⟨_ + 2, h⟩ => absurd h (Nat.not_lt.2 (Nat.le_add_left _ _)), trivial⟩

/-- Grid point `t`'s block of decoder rows. -/
def decBlk (m : Mem F) (c : Dev nD) (t : ℕ) : Vec F S4x128x64 .f32 := fun j =>
  (entryMem m c main_v2 : Vec F S4x512x64 .f32) fun
    | 0 => j 0
    | 1 => ⟨(t % 4) * 128 + (j 1).val, by
        have := (j 1).isLt; have h : t % 4 < 4 := Nat.mod_lt _ (by decide)
        show _ < 512
        change (j 1).val < 128 at this
        omega⟩
    | 2 => j 2

/-- The contents of the twelve buffers at grid point `t` once the scratch arrays are filled. -/
def stateAt (m : Mem F) (c : Dev nD) (t : ℕ) : State F :=
  prepped
    { el := entryMem m c main_arg5, dl := entryMem m c main_arg6, enc := entryMem m c main_v1, dec := decBlk m c t,
      w1 := entryMem m c main_v9, w2 := entryMem m c main_v12, v4 := entryMem m c main_v21,
      out := fun _ => Scalar.ofBits .f32 0, epq := fun _ => Scalar.ofBits .bf16 0, epm := fun _ => Scalar.ofBits .bf16 0,
      wv := fun _ => Scalar.ofBits .bf16 0, decm := fun _ => Scalar.ofBits .bf16 0 }

/-- The block of the result written at grid point `t`. -/
def outBlk (m : Mem F) (c : Dev nD) (t : ℕ) : Vec F S128x2048 .f32 := outTo (BitVec.ofNat 32 t) (stateAt m c t) 4

/-- The scratch arrays between grid points: at some contents, the packed rows and the block-diagonal weights filled
    once the first point is over. -/
def carried (m : Mem F) (c : Dev nD) (t : ℕ) : SPr F :=
  iprop(∃ epq epm wv decm, ⌜t ≠ 0 → epm = (stateAt m c t).epm ∧ wv = (stateAt m c t).wv⌝
    ∗ owns (c.tc : Thread nD τ) (Memref.whole cc0_scratch0) fullShare epq
    ∗ owns (c.tc : Thread nD τ) (Memref.whole cc0_scratch1) fullShare epm
    ∗ owns (c.tc : Thread nD τ) (Memref.whole cc0_scratch2) fullShare wv
    ∗ owns (c.tc : Thread nD τ) (Memref.whole cc0_scratch3) fullShare decm)

/-- What is held between grid points: the tables, the scratch arrays and the random number register. -/
def inv (m : Mem F) (c : Dev nD) (t : ℕ) : SPr F :=
  iprop((owns (c.tc : Thread nD τ) (Memref.whole main_arg5) fullShare.right (stateAt m c t).el
      ∗ owns (c.tc : Thread nD τ) (Memref.whole main_arg6) fullShare.right (stateAt m c t).dl)
    ∗ carried m c t ∗ ∃ r, prngReg c r)

/-- The data of the launch. -/
def data (m : Mem F) (p : Fin 1) (c : Dev nD) :
    Pipeline.Dat τ (Elt F) Unit ℕ (UR sig nD τ) ℕ (Pipeline.pin (pcfgs (F := F)) (tables m) p) c where
  A := fun w => entryMem m c (Pipeline.arrRef spec0 w)
  after := fun
    | 0 => fun _ => entryMem m c main_v1
    | 1 => fun t => decBlk m c t.val
    | 2 => fun _ => entryMem m c main_v9
    | 3 => fun _ => entryMem m c main_v12
    | 4 => fun _ => entryMem m c main_v21
    | 5 => fun t => outBlk m c t.val
    | ⟨_ + 6, h⟩ => absurd h (Nat.not_lt.2 (Nat.le_add_left _ _))
  Φ := fun t => inv m c t.val
  q := fun _ => fullShare
  owed := fun _ => 0

end Cert.KernelIdeal.Attn
end
-- ==== Proof.Before.lean ====
module
public import proofs.«01_k».proof.Proof.Data
/-!
# What each window's buffer holds when the body runs

Windows 0, 2, 3 and 4 hold their whole arrays at every point, window 1 holds the point's block of decoder rows.
-/
@[expose] public section
noncomputable section
namespace Cert.KernelIdeal.Attn
open Idealize.ShloMosaic Idealize.ShloMosaic.TcCoe
open Cert.Attn
variable {F : FTy → Type} [FloatOps F]

/-- The pipeline's configuration. -/
abbrev cfgOf (m : Mem F) : Pipeline.Cfg sig Λ₀ := Pipeline.pin (pcfgs (F := F)) (tables m) 0

/-- No point is idle for a window and no transfer is cut. -/
theorem uncut (m : Mem F) (w : Fin 6) (i : (cfgOf m).grid.Coords) (a) : ((cfgOf m).win w).clip i a = none := rfl

/-- Filling a buffer from an uncut block leaves the block. -/
theorem fill_uncut (m : Mem F) (w : Fin 6) (i : (cfgOf m).grid.Coords) {α : Type} (d : ((cfgOf m).win w).block.Idx → α)
    (g : (((cfgOf m).win w).xblock i).Idx → α) : ((cfgOf m).win w).fill i d g = g := by
  funext j
  have hm : ((cfgOf m).win w).moved i j = true :=
    (((cfgOf m).win w).moved_iff _ j).mpr fun a => (j a).isLt
  unfold Pipeline.Window.fill
  rw [dif_pos hm]

/-- The grid's coordinate at point `t` is `t`. -/
theorem coord_val (t : Fin grid0.N) : ((grid0.coords t) 0).val = t.val := by
  rcases Gen.fin_N0 t with h | h | h | h <;> subst h <;> decide

/-- Window 0 reads its whole array. -/
theorem read0 (m : Mem F) (t : Fin grid0.N) (A : Vec F S4x128x256 .f32) :
    (((cfgOf m).win 0).blk t).view.read (Elt F) A = A := by
  funext j
  refine congrArg A (show (((cfgOf m).win 0).rect t).emb j = j from ?_)
  funext a; apply Fin.ext
  refine (((cfgOf m).win 0).rect_emb_val_of_index_zero t a ?_ j)
  change Fin 3 at a
  match a with
  | 0 => rfl
  | 1 => rfl
  | 2 => rfl

/-- Window 2 reads its whole array. -/
theorem read2 (m : Mem F) (t : Fin grid0.N) (A : Vec F S256x256 .f32) :
    (((cfgOf m).win 2).blk t).view.read (Elt F) A = A := by
  funext j
  refine congrArg A (show (((cfgOf m).win 2).rect t).emb j = j from ?_)
  funext a; apply Fin.ext
  refine (((cfgOf m).win 2).rect_emb_val_of_index_zero t a ?_ j)
  change Fin 2 at a
  match a with
  | 0 => rfl
  | 1 => rfl

/-- Window 3 reads its whole array. -/
theorem read3 (m : Mem F) (t : Fin grid0.N) (A : Vec F S64x256 .f32) :
    (((cfgOf m).win 3).blk t).view.read (Elt F) A = A := by
  funext j
  refine congrArg A (show (((cfgOf m).win 3).rect t).emb j = j from ?_)
  funext a; apply Fin.ext
  refine (((cfgOf m).win 3).rect_emb_val_of_index_zero t a ?_ j)
  change Fin 2 at a
  match a with
  | 0 => rfl
  | 1 => rfl

/-- Window 4 reads its whole array. -/
theorem read4 (m : Mem F) (t : Fin grid0.N) (A : Vec F S256x4 .bf16) :
    (((cfgOf m).win 4).blk t).view.read (Elt F) A = A := by
  funext j
  refine congrArg A (show (((cfgOf m).win 4).rect t).emb j = j from ?_)
  funext a; apply Fin.ext
  refine (((cfgOf m).win 4).rect_emb_val_of_index_zero t a ?_ j)
  change Fin 2 at a
  match a with
  | 0 => rfl
  | 1 => rfl

/-- Window 1's block at point `t` is block `t` of the second axis. -/
theorem index1 (m : Mem F) (t : Fin grid0.N) : ((cfgOf m).win 1).index t = ![0, t.val, 0] := by
  show ![0, (BitVec.ofNat 32 ((grid0.coords t) 0).val).toNat, 0] = ![0, t.val, 0]
  have ht : t.val < 4 := t.isLt
  rw [coord_val, BitVec.toNat_ofNat, Nat.mod_eq_of_lt (by omega)]

/-- Window 1 reads the point's block of decoder rows. -/
theorem read1 (m : Mem F) (c : Dev nD) (t : Fin grid0.N) :
    (((cfgOf m).win 1).blk t).view.read (Elt F) (entryMem m c main_v2 : Vec F S4x512x64 .f32) = decBlk m c t.val := by
  funext j
  refine congrArg (entryMem m c main_v2 : Vec F S4x512x64 .f32) (a₁ := (((cfgOf m).win 1).rect t).emb j) ?_
  funext a; apply Fin.ext
  have h := ((cfgOf m).win 1).rect_emb_val t j a
  rw [index1] at h
  refine h.trans ?_
  have ht : t.val < 4 := t.isLt
  change Fin 3 at a
  change S4x128x64.Idx at j
  match a with
  | 0 => show 0 * 4 + (j 0).val = (j 0).val; omega
  | 1 => show t.val * 128 + (j 1).val = t.val % 4 * 128 + (j 1).val; rw [Nat.mod_eq_of_lt ht]
  | 2 => show 0 * 64 + (j 2).val = (j 2).val; omega

/-- A buffer the body only reads, whose window reads the same block `X` at every point, holds `X` at every point. -/
theorem held_const (m : Mem F) (w : Fin 6) (c : Dev nD)
    (A : (w : Fin (cfgOf m).W) → Buf (Elt F) (((cfgOf m).win w).arr.view.loc (c.tc : Thread nD τ)))
    (X : ((cfgOf m).win w).block.Idx → Elt F ((cfgOf m).win w).elt)
    (h : ∀ t : Fin grid0.N, (((cfgOf m).win w).blk t).view.read (Elt F) (A w) = X) (n : ℕ) (hn : n < (cfgOf m).N) :
    Pipeline.heldIn (c := c) (cfgOf m) A w n hn = X := by
  induction n with
  | zero => unfold Pipeline.heldIn; exact (fill_uncut m w _ _ _).trans (h _)
  | succ n ih =>
    unfold Pipeline.heldIn
    split
    · exact (fill_uncut m w _ _ _).trans (h _)
    · exact ih _

variable (m : Mem F) (c : Dev nD) (t : Fin grid0.N)

/-- The encoder window before the body. -/
theorem before0 (d) : (data m 0 c).before 0 t d = entryMem m c main_v1 :=
  ((data m 0 c).before_eq_heldIn 0 rfl (fun _ => rfl) (fun _ _ => rfl)
    (fun t => (held_const m 0 c (data m 0 c).A _ (fun t => read0 m t _) _ _).symm) t d).trans (held_const m 0 c (data m 0 c).A _ (fun t => read0 m t _) _ _)

/-- The encoder weights' window before the body. -/
theorem before2 (d) : (data m 0 c).before 2 t d = entryMem m c main_v9 :=
  ((data m 0 c).before_eq_heldIn 2 rfl (fun _ => rfl) (fun _ _ => rfl)
    (fun t => (held_const m 2 c (data m 0 c).A _ (fun t => read2 m t _) _ _).symm) t d).trans (held_const m 2 c (data m 0 c).A _ (fun t => read2 m t _) _ _)

/-- The decoder weights' window before the body. -/
theorem before3 (d) : (data m 0 c).before 3 t d = entryMem m c main_v12 :=
  ((data m 0 c).before_eq_heldIn 3 rfl (fun _ => rfl) (fun _ _ => rfl)
    (fun t => (held_const m 3 c (data m 0 c).A _ (fun t => read3 m t _) _ _).symm) t d).trans (held_const m 3 c (data m 0 c).A _ (fun t => read3 m t _) _ _)

/-- The scale's window before the body. -/
theorem before4 (d) : (data m 0 c).before 4 t d = entryMem m c main_v21 :=
  ((data m 0 c).before_eq_heldIn 4 rfl (fun _ => rfl) (fun _ _ => rfl)
    (fun t => (held_const m 4 c (data m 0 c).A _ (fun t => read4 m t _) _ _).symm) t d).trans (held_const m 4 c (data m 0 c).A _ (fun t => read4 m t _) _ _)

/-- The decoder window before the body: grid point `t`'s block. -/
theorem before1 (d) : (data m 0 c).before 1 t d = decBlk m c t.val := by
  have hf : ((cfgOf m).win 1).fetch t = true := by
    refine (((cfgOf m).win 1).fetch_in rfl t).mpr ?_
    rcases Nat.eq_zero_or_pos t.val with h | h
    · exact .inl h
    · refine .inr ⟨h, fun e => ?_⟩
      rw [index1, index1] at e
      have e1 : t.val = t.val - 1 := congrFun e 1
      omega
  rw [(data m 0 c).before_fetched 1 t hf]
  exact (fill_uncut m 1 _ _ _).trans (read1 m c t)

end Cert.KernelIdeal.Attn
end
-- ==== Proof.Launch.lean ====
module
public import proofs.«01_k».proof.Proof.Before
/-!
# The launch

One grid point's body takes what is held before the point to what is held after it; so the whole program ends, with
the result array made of the blocks the points write and every other buffer as it was when the kernel was launched.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn
open K0.Facts₀
variable {F : FTy → Type} [FloatOps F]

/-- The twelve buffers the body works on at grid point `t`. -/
def refsAt (m : Mem F) (t : Fin grid0.N) : Refs where
  a1 := Memref.whole main_arg5
  h1 := Memref.isWhole_whole _
  a2 := Memref.whole main_arg6
  h2 := Memref.isWhole_whole _
  a3 := spec0_0.stage ((cfgOf m).slots t 0)
  h3 := hstage0_0 (((cfgOf m).slots t 0).cast nbuf0_0)
  a4 := spec0_1.stage ((cfgOf m).slots t 1)
  h4 := hstage0_1 (((cfgOf m).slots t 1).cast nbuf0_1)
  a5 := spec0_2.stage ((cfgOf m).slots t 2)
  h5 := hstage0_2 (((cfgOf m).slots t 2).cast nbuf0_2)
  a6 := spec0_3.stage ((cfgOf m).slots t 3)
  h6 := hstage0_3 (((cfgOf m).slots t 3).cast nbuf0_3)
  a7 := spec0_4.stage ((cfgOf m).slots t 4)
  h7 := hstage0_4 (((cfgOf m).slots t 4).cast nbuf0_4)
  a8 := spec0_5.stage ((cfgOf m).slots t 5)
  h8 := hstage0_5 (((cfgOf m).slots t 5).cast nbuf0_5)
  a9 := Memref.whole cc0_scratch0
  h9 := Memref.isWhole_whole _
  a10 := Memref.whole cc0_scratch1
  h10 := Memref.isWhole_whole _
  a11 := Memref.whole cc0_scratch2
  h11 := Memref.isWhole_whole _
  a12 := Memref.whole cc0_scratch3
  h12 := Memref.isWhole_whole _

/-- The program the pipeline calls at point `t` is the body on those buffers. -/
theorem called (m : Mem F) (t : Fin grid0.N) :
    defs₀ (F := F) .tc (cfgOf m).body ((cfgOf m).bodyArgs t ((cfgOf m).slots t)) = body (refsAt m t) (grid0.coords t) :=
  Eq.trans (by rfl) (body_eq (grid0.coords t) (refsAt m t))

/-- The first point is point 0. -/
theorem first_iff (t : Fin grid0.N) : First (grid0.coords t) ↔ t.val = 0 := by
  unfold First
  rw [coord_val]
  rcases Gen.fin_N0 t with h | h | h | h <;> subst h <;> decide

/-- The output block depends on the contents of six of the buffers only. -/
theorem outTo_congr (a : BitVec 32) (s s' : State F) (n : ℕ) (h1 : s.el = s'.el) (h2 : s.dl = s'.dl) (h3 : s.dec = s'.dec)
    (h4 : s.w2 = s'.w2) (h5 : s.epm = s'.epm) (h6 : s.wv = s'.wv) : outTo a s n = outTo a s' n := by
  obtain ⟨_, _, _, _, _, _, _, _, _, _, _, _⟩ := s
  obtain ⟨_, _, _, _, _, _, _, _, _, _, _, _⟩ := s'
  dsimp only at h1 h2 h3 h4 h5 h6
  subst h1 h2 h3 h4 h5 h6
  rfl

/-- The same buffers at other contents of the output block and of the scratch arrays. -/
def State.put (s : State F) (o : Vec F S128x2048 .f32) (epq : Vec F S512x256 .bf16)
    (epm : Vec F S64x2048 .bf16) (wv : Vec F S2048x32 .bf16) (decm : Vec F S128x2048 .bf16) : State F where
  el := s.el
  dl := s.dl
  enc := s.enc
  dec := s.dec
  w1 := s.w1
  w2 := s.w2
  v4 := s.v4
  out := o
  epq := epq
  epm := epm
  wv := wv
  decm := decm

/-- What the batches leave, from contents at which the packed rows and the weights are filled. -/
theorem after_put (a : BitVec 32) (s : State F) (o epq epm wv decm) (h : epm = s.epm ∧ wv = s.wv) :
    after a (s.put o epq epm wv decm) 4
      = s.put (outTo a s 4) epq s.epm s.wv (decmTo a (s.put o epq epm wv decm) 4) := by
  obtain ⟨rfl, rfl⟩ := h
  exact State.ext rfl rfl rfl rfl rfl rfl rfl (outTo_congr a _ _ 4 rfl rfl rfl rfl rfl rfl) rfl rfl rfl rfl

/-- Filling the scratch arrays from any contents of them. -/
theorem prepped_put (s : State F) (o epq epm wv decm) :
    prepped ((prepped s).put o epq epm wv decm)
      = (prepped s).put o (prepped s).epq (prepped s).epm (prepped s).wv decm := rfl

/-- What the body leaves at point `t`. -/
theorem left_at (m : Mem F) (c : Dev nD) (t : Fin grid0.N) (o : Vec F S128x2048 .f32) (epq : Vec F S512x256 .bf16)
    (epm : Vec F S64x2048 .bf16) (wv : Vec F S2048x32 .bf16) (decm : Vec F S128x2048 .bf16)
    (h : t.val ≠ 0 → epm = (stateAt m c t.val).epm ∧ wv = (stateAt m c t.val).wv) :
    ∃ epq' decm', left (grid0.coords t) ((stateAt m c t.val).put o epq epm wv decm)
      = (stateAt m c t.val).put (outBlk m c t.val) epq' (stateAt m c t.val).epm (stateAt m c t.val).wv decm' := by
  unfold left
  by_cases h0 : t.val = 0
  · rw [if_pos ((first_iff t).mpr h0), coord_val]
    unfold stateAt
    rw [prepped_put, after_put _ _ _ _ _ _ _ ⟨rfl, rfl⟩]
    exact ⟨_, _, rfl⟩
  · rw [if_neg fun h' => h0 ((first_iff t).mp h'), coord_val, after_put _ _ _ _ _ _ _ (h h0)]
    exact ⟨_, _, rfl⟩

/-- What does not depend on the point. -/
theorem same_at (m : Mem F) (c : Dev nD) (t t' : ℕ) :
    (stateAt m c t).el = (stateAt m c t').el ∧ (stateAt m c t).dl = (stateAt m c t').dl
      ∧ (stateAt m c t).epm = (stateAt m c t').epm ∧ (stateAt m c t).wv = (stateAt m c t').wv := ⟨rfl, rfl, rfl, rfl⟩

/-- The twelve buffers, one by one. -/
theorem holds_put (c : Dev nD) (R : Refs) (s : State F) (o epq epm wv decm) :
    holds c R (s.put o epq epm wv decm)
      = iprop(owns (c.tc : Thread nD τ) R.a1 fullShare.right s.el ∗ owns (c.tc : Thread nD τ) R.a2 fullShare.right s.dl
    ∗ owns (c.tc : Thread nD τ) R.a3 fullShare s.enc ∗ owns (c.tc : Thread nD τ) R.a4 fullShare s.dec
    ∗ owns (c.tc : Thread nD τ) R.a5 fullShare s.w1 ∗ owns (c.tc : Thread nD τ) R.a6 fullShare s.w2
    ∗ owns (c.tc : Thread nD τ) R.a7 fullShare s.v4 ∗ owns (c.tc : Thread nD τ) R.a8 fullShare o
    ∗ owns (c.tc : Thread nD τ) R.a9 fullShare epq ∗ owns (c.tc : Thread nD τ) R.a10 fullShare epm
    ∗ owns (c.tc : Thread nD τ) R.a11 fullShare wv ∗ owns (c.tc : Thread nD τ) R.a12 fullShare decm) := rfl

/-- The body's contract at point `t`, the buffers listed. -/
theorem body_runs (m : Mem F) (c : Dev nD) (t : Fin grid0.N) (o : Vec F S128x2048 .f32) (epq : Vec F S512x256 .bf16)
    (epm : Vec F S64x2048 .bf16) (wv : Vec F S2048x32 .bf16) (decm : Vec F S128x2048 .bf16)
    (h : t.val ≠ 0 → epm = (stateAt m c t.val).epm ∧ wv = (stateAt m c t.val).wv) (Q : PUnit → SPr F) :
    ∃ epq' decm', iprop((owns (c.tc : Thread nD τ) (refsAt m t).a1 fullShare.right (stateAt m c t.val).el
        ∗ owns (c.tc : Thread nD τ) (refsAt m t).a2 fullShare.right (stateAt m c t.val).dl
        ∗ owns (c.tc : Thread nD τ) (refsAt m t).a3 fullShare (stateAt m c t.val).enc
        ∗ owns (c.tc : Thread nD τ) (refsAt m t).a4 fullShare (stateAt m c t.val).dec
        ∗ owns (c.tc : Thread nD τ) (refsAt m t).a5 fullShare (stateAt m c t.val).w1
        ∗ owns (c.tc : Thread nD τ) (refsAt m t).a6 fullShare (stateAt m c t.val).w2
        ∗ owns (c.tc : Thread nD τ) (refsAt m t).a7 fullShare (stateAt m c t.val).v4
        ∗ owns (c.tc : Thread nD τ) (refsAt m t).a8 fullShare o
        ∗ owns (c.tc : Thread nD τ) (refsAt m t).a9 fullShare epq
        ∗ owns (c.tc : Thread nD τ) (refsAt m t).a10 fullShare epm
        ∗ owns (c.tc : Thread nD τ) (refsAt m t).a11 fullShare wv
        ∗ owns (c.tc : Thread nD τ) (refsAt m t).a12 fullShare decm)
      ∗ ((owns (c.tc : Thread nD τ) (refsAt m t).a1 fullShare.right (stateAt m c t.val).el
        ∗ owns (c.tc : Thread nD τ) (refsAt m t).a2 fullShare.right (stateAt m c t.val).dl
        ∗ owns (c.tc : Thread nD τ) (refsAt m t).a3 fullShare (stateAt m c t.val).enc
        ∗ owns (c.tc : Thread nD τ) (refsAt m t).a4 fullShare (stateAt m c t.val).dec
        ∗ owns (c.tc : Thread nD τ) (refsAt m t).a5 fullShare (stateAt m c t.val).w1
        ∗ owns (c.tc : Thread nD τ) (refsAt m t).a6 fullShare (stateAt m c t.val).w2
        ∗ owns (c.tc : Thread nD τ) (refsAt m t).a7 fullShare (stateAt m c t.val).v4
        ∗ owns (c.tc : Thread nD τ) (refsAt m t).a8 fullShare (outBlk m c t.val)
        ∗ owns (c.tc : Thread nD τ) (refsAt m t).a9 fullShare epq'
        ∗ owns (c.tc : Thread nD τ) (refsAt m t).a10 fullShare (stateAt m c t.val).epm
        ∗ owns (c.tc : Thread nD τ) (refsAt m t).a11 fullShare (stateAt m c t.val).wv
        ∗ owns (c.tc : Thread nD τ) (refsAt m t).a12 fullShare decm')
        -∗ Q ⟨⟩))
      ⊢ bwp c (body (refsAt m t) (grid0.coords t)) Q := by
  obtain ⟨epq', decm', he⟩ := left_at m c t o epq epm wv decm h
  have hr := runs_body (c := c) (R := refsAt m t) (s := (stateAt m c t.val).put o epq epm wv decm) (grid0.coords t)
  rw [he] at hr
  have hq := hr Q
  rw [holds_put, holds_put] at hq
  exact ⟨epq', decm', hq⟩

/-- The body at every point. -/
theorem body_at (m : Mem F) (c : Dev nD) :
    Pipeline.BodyObligationLoose (data m 0 c) (defs₀ (F := F)) Variants.none () Set.univ := by
  intro t
  rw [Gen.bigSep_W0, Gen.bigSep_W0]
  show _ ⊢ bwp c (defs₀ (F := F) .tc (cfgOf m).body ((cfgOf m).bodyArgs t ((cfgOf m).slots t))) _
  rw [called, show (data m 0 c).Φ t.castSucc = inv m c t.val from rfl]
  change _ ⊢ bwp c (body (refsAt m t) (grid0.coords t))
    (fun _ => iprop(inv m c (t.val + 1) ∗ (data m 0 c).owesAt () t.castSucc
      ∗ owns (c.tc : Thread nD τ) (refsAt m t).a3 fullShare (stateAt m c t.val).enc
      ∗ owns (c.tc : Thread nD τ) (refsAt m t).a4 fullShare (stateAt m c t.val).dec
      ∗ owns (c.tc : Thread nD τ) (refsAt m t).a5 fullShare (stateAt m c t.val).w1
      ∗ owns (c.tc : Thread nD τ) (refsAt m t).a6 fullShare (stateAt m c t.val).w2
      ∗ owns (c.tc : Thread nD τ) (refsAt m t).a7 fullShare (stateAt m c t.val).v4
      ∗ owns (c.tc : Thread nD τ) (refsAt m t).a8 fullShare (outBlk m c t.val)))
  rw [show inv m c t.val = iprop((owns (c.tc : Thread nD τ) (Memref.whole main_arg5) fullShare.right (stateAt m c t.val).el
      ∗ owns (c.tc : Thread nD τ) (Memref.whole main_arg6) fullShare.right (stateAt m c t.val).dl)
    ∗ carried m c t.val ∗ ∃ r, prngReg c r) from rfl, carried]
  iintro ⟨⟨⟨H1, H2⟩, ⟨%epq, %epm, %wv, %decm, %hp, H9, H10, H11, H12⟩, Hg⟩, Ho, ⟨%d0, H3⟩, ⟨%d1, H4⟩, ⟨%d2, H5⟩, ⟨%d3, H6⟩, ⟨%d4, H7⟩, ⟨%d5, H8⟩⟩
  rw [before0 m c t d0, before1 m c t d1, before2 m c t d2, before3 m c t d3, before4 m c t d4]
  obtain ⟨epq', decm', hr⟩ := body_runs m c t ((data m 0 c).before 5 t d5) epq epm wv decm hp
    _
  iapply hr
  isplitr [Hg Ho]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro ⟨H1, H2, H3, H4, H5, H6, H7, H8, H9, H10, H11, H12⟩
  unfold inv carried
  obtain ⟨e1, e2, e3, e4⟩ := same_at m c t.val (t.val + 1)
  rw [e1, e2, e3, e4]
  isplitl [H1 H2 H9 H10 H11 H12 Hg]
  · isplitl [H1 H2]
    · isplitl [H1]; · iexact H1
      iexact H2
    isplitr [Hg]
    · iexists epq', (stateAt m c (t.val + 1)).epm, (stateAt m c (t.val + 1)).wv, decm'
      isplitr
      · ipureintro; exact fun _ => ⟨rfl, rfl⟩
      isplitl [H9]; · iexact H9
      isplitl [H10]; · iexact H10
      isplitl [H11]; · iexact H11
      iexact H12
    iexact Hg
  isplitl [Ho]; · iexact Ho
  isplitl [H3]; · iexact H3
  isplitl [H4]; · iexact H4
  isplitl [H5]; · iexact H5
  isplitl [H6]; · iexact H6
  isplitl [H7]; · iexact H7
  iexact H8

end Cert.KernelIdeal.Attn
end
-- ==== Proof.Run.lean ====
module
public import proofs.«01_k».proof.Proof.Launch
public import Idealize.ShloMosaic.Lib.StableHlo.RunRead
/-!
# The whole program's run

Every run of the program ends; the result array then holds the blocks of the four grid points, one above the other, the
arguments are as they were and every counter is at zero.
-/
@[expose] public section
noncomputable section
namespace Cert.KernelIdeal.Attn
open Idealize.ShloMosaic Idealize.ShloMosaic.TcCoe
open Idealize.SL Idealize.SL.RA Idealize.SL.BI Idealize.SL.ProofMode
open scoped Idealize.SL.BI
open Idealize.SL.BI.BIBase Idealize.SL.BI.Laws Idealize.SL.Sem
open Cert.Attn
variable {F : FTy → Type} [FloatOps F]

/-- The result array: the four blocks, one above the other. -/
def result (m : Mem F) (c : Dev nD) : Vec F S512x2048 .f32 :=
  mk2 fun r l => at2 (outBlk m c (r / 128)) (r % 128) l

/-- The output window's block at point `t` is block `t` of the rows. -/
theorem index5 (m : Mem F) (t : Fin grid0.N) : ((cfgOf m).win 5).index t = ![t.val, 0] := by
  show ![(BitVec.ofNat 32 ((grid0.coords t) 0).val).toNat, 0] = ![t.val, 0]
  have ht : t.val < 4 := t.isLt
  rw [coord_val, BitVec.toNat_ofNat, Nat.mod_eq_of_lt (by omega)]

/-- Every point writes its block back. -/
theorem flush5 (m : Mem F) (t : Fin grid0.N) : ((cfgOf m).win 5).flush t = true := by
  refine (((cfgOf m).win 5).flush_out rfl t).mpr ?_
  rcases Nat.lt_or_ge (t.val + 1) grid0.N with h | h
  · refine .inr ⟨h, fun e => ?_⟩
    rw [index5, index5] at e
    have e1 : t.val + 1 = t.val := congrFun e 0
    omega
  · have := t.isLt
    exact .inl (by show t.val + 1 = grid0.N; omega)

/-- Where element `j` of point `t`'s block sits in the result. -/
theorem emb5 (m : Mem F) (t : Fin grid0.N) (j : S128x2048.Idx) :
    (((cfgOf m).win 5).rect t).emb j
      = (ix2 ⟨t.val * 128 + (j 0).val, by
          have h0 : (j 0).val < 128 := (j 0).isLt
          have h1 : t.val < 4 := t.isLt
          omega⟩ (j 1) : S512x2048.Idx) := by
  funext a; apply Fin.ext
  have h := ((cfgOf m).win 5).rect_emb_val t j a
  rw [index5] at h
  refine h.trans ?_
  change Fin 2 at a
  match a with
  | 0 => rfl
  | 1 => show 0 * 2048 + (j 1).val = (j 1).val; omega

/-- What the result array holds at the end. -/
theorem arr_result (m : Mem F) (c : Dev nD) : (data m 0 c).arrAt 5 (cfgOf m).N = result m c := by
  refine (data m 0 c).arrAt_eq_of_cover 5 (result m c) (fun t _ => ?_) fun i => ?_
  · funext j
    change S128x2048.Idx at j
    have h0 : (j 0).val < 128 := (j 0).isLt
    show outBlk m c t.val j = result m c ((((cfgOf m).win 5).rect t).emb j)
    rw [emb5]
    show _ = at2 (outBlk m c ((t.val * 128 + (j 0).val) / 128)) ((t.val * 128 + (j 0).val) % 128) (j 1).val
    rw [show (t.val * 128 + (j 0).val) / 128 = t.val by omega, show (t.val * 128 + (j 0).val) % 128 = (j 0).val by omega]
    exact at2_idx _ j
  · change S512x2048.Idx at i
    have hi : (i 0).val < 512 := (i 0).isLt
    obtain ⟨t, ht⟩ : ∃ t : Fin grid0.N, t.val = (i 0).val / 128 := ⟨⟨(i 0).val / 128, by show _ < 4; omega⟩, rfl⟩
    refine ⟨t, flush5 m t, ?_⟩
    have e : (((cfgOf m).win 5).blk t).view.emb (ix2 ⟨(i 0).val % 128, Nat.mod_lt _ (by decide)⟩ (i 1) : S128x2048.Idx) = i := by
      refine (emb5 m t (ix2 ⟨(i 0).val % 128, Nat.mod_lt _ (by decide)⟩ (i 1))).trans ?_
      funext a; apply Fin.ext
      change Fin 2 at a
      match a with
      | 0 => show t.val * 128 + (i 0).val % 128 = (i 0).val; omega
      | 1 => rfl
    have hm := View.emb_mem_set (((cfgOf m).win 5).blk t).view
      (ix2 ⟨(i 0).val % 128, Nat.mod_lt _ (by decide)⟩ (i 1) : S128x2048.Idx)
    exact e ▸ hm

/-- The two tables as the launch hands them to the body. -/
theorem tables_held (m : Mem F) (c : Dev nD) :
    (Pipeline.ΦT (U := UR sig nD τ) (pcfgs (F := F) 0).pre (tables m 0).1 c)
      = iprop((((c.tc : Thread nD τ).loc main_arg5) ↦{fullShare.right} entryMem m 0 main_arg5)
        ∗ (((c.tc : Thread nD τ).loc main_arg6) ↦{fullShare.right} entryMem m 0 main_arg6)) :=
  bigSep_fin_two _

/-- The buffers the host operations write. -/
abbrev hostWrites : List (Ref sig .tc) :=
  [main_v0, main_v1, main_v2, main_v3, main_v4, main_c, main_v5, main_v6, main_v7, main_v8,
    main_call0_v0, main_call0_v1, main_call0_v2, main_call0_v3, main_call0_v4, main_v9,
    main_v10, main_v11, main_v12, main_v13, main_v14, main_c_0, main_v15, main_v16, main_v17, main_v18, main_v19,
    main_call1_v0, main_call1_v1, main_call1_v2, main_call1_v3, main_call1_v4, main_v20, main_v21]

/-- A buffer no host operation writes is at launch as it was. -/
theorem entry_kept (m : Mem F) (c : Dev nD) {r : Ref sig .tc} (hr : r ∉ hostWrites) : entryMem m c r = m (c, Proc.devRef .tc r) :=
  StableHlo.after_unwritten hostWrites rfl hr _

/-- The whole run. -/
theorem run (m : Mem F) (g : Dev nD → PrngReg) :
    θ_run (defs (F := F)) (onTc (τ := τ) (main (F := F))) ⟨m, fun _ => 0, g⟩ fun r =>
      (∀ c : Dev nD, r.2.mem ((c.tc : Thread nD τ).loc main_v22) = result m c
        ∧ ∀ b : Ref sig .tc, b ∈ Pipeline.restRefs sig spec0 → b ∉ hostWrites →
            r.2.mem ((c.tc : Thread nD τ).loc b) = m ((c.tc : Thread nD τ).loc b))
      ∧ r.2.sem = fun _ => 0 := by
  refine Pipeline.θ_run_frameP_track (pcfgs (F := F)) (tables m) (data m) 0 Gen.launch0 (defs₀ (F := F)) Variants.none m g (main (F := F))
    (body_at m) (fun c w => ?_) (fun _ _ => rfl) (entryMem m)
    (Pipeline.hmainP_prefixes (pcfgs (F := F)) 0 (defs₀ (F := F)) Variants.none m (main (F := F)) hostss
      ⟨Gen.hostOps0_sub, Gen.hostOps0_1_sub, Gen.hostOps0_2_sub, Gen.hostOps0_3_sub, Gen.hostOps0_4_sub⟩
      ⟨by repeat' constructor, by repeat' constructor, by repeat' constructor, by repeat' constructor, by repeat' constructor⟩ Gen.main_chain)
    (fun _ _ => rfl) (fun c k => ?_) (fun c => ?_) (fun c => ?_) (Q' := _) (hQ' := fun r h => ?_)
  · show (if _ then _ else _) = _
    split <;> rfl
  · have hc : c = 0 := Subsingleton.elim _ _
    subst hc
    match k with
    | 0 => rfl
    | 1 => rfl
  · unfold Pipeline.ΦA
    rw [show (data m 0 c).Φ 0 = inv m c 0 from rfl]
    obtain rfl : c = 0 := Subsingleton.elim _ _
    rw [tables_held]
    unfold inv carried
    rw [Gen.scopedRest0_eq]
    simp only [owns_whole]
    iintro ⟨⟨⟨⟨%f0, H0⟩, ⟨%f1, H1⟩, ⟨%f2, H2⟩, ⟨%f3, H3⟩⟩, Hg⟩, T0, T1⟩
    isplitl [T0 T1]
    · isplitl [T0]; · iexact T0
      iexact T1
    isplitr [Hg]
    · iexists f0, f1, f2, f3
      isplitr
      · ipureintro; exact fun h => absurd rfl h
      isplitl [H0]; · iexact H0
      isplitl [H1]; · iexact H1
      isplitl [H2]; · iexact H2
      iexact H3
    iexact Hg
  · rw [show (data m 0 c).Φ (Fin.last (cfgOf m).N) = inv m c (cfgOf m).N from rfl]
    unfold inv carried Pipeline.ΦA
    rw [Gen.scopedRest0_eq]
    simp only [owns_whole]
    iintro ⟨-, ⟨%f0, %f1, %f2, %f3, %_, H0, H1, H2, H3⟩, Hg⟩
    isplitr [Hg]
    · isplitl [H0]; · iexists f0; iexact H0
      isplitl [H1]; · iexists f1; iexact H1
      isplitl [H2]; · iexists f2; iexact H2
      iexists f3; iexact H3
    iexact Hg
  · refine ⟨fun c => ⟨?_, fun b hb hw => ?_⟩, h.2⟩
    · exact ((h.1 c).1 5).trans (arr_result m c)
    · exact ((h.1 c).2 b hb).trans (entry_kept m c hw)

end Cert.KernelIdeal.Attn
end
-- ==== Proof.Frames.lean ====
module
public import proofs.«01_k».proof.Defs
public import proofs.«01_k».proof.Proof.Run
public import proofs.«01_k».proof.Proof.Gen.Kernel
/-!
# The frames of the kernel

The program ends from any memory, with its arguments as they were and every counter at zero: read over the reals and
read over machine words. Both readings are the one run, taken at the two kinds of elements.
-/
@[expose] public section
noncomputable section
namespace Cert.KernelIdeal.Attn
open Idealize.ShloMosaic Idealize.ShloMosaic.TcCoe
open Idealize.SL.Sem
variable {F : FTy → Type} [FloatOps F]

/-- The arguments as they were. -/
def Kept (m m' : Mem F) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)

/-- The run, with the result and the arguments. -/
theorem run_kept (m : Mem F) (g : Dev nD → PrngReg) :
    θ_run (defs (F := F)) (onTc (τ := τ) (main (F := F))) ⟨m, fun _ => 0, g⟩ fun r =>
      (∀ c : Dev nD, r.2.mem ((c.tc : Thread nD τ).loc main_v22) = result m c ∧ Kept m r.2.mem c) ∧ r.2.sem = fun _ => 0 :=
  (θ_run _ _ _).mono (fun _ h => ⟨fun c => ⟨(h.1 c).1,
      (h.1 c).2 main_arg0 (Pipeline.mem_restRefs_of _ rfl (by decide)) (by decide),
      (h.1 c).2 main_arg1 (Pipeline.mem_restRefs_of _ rfl (by decide)) (by decide),
      (h.1 c).2 main_arg2 (Pipeline.mem_restRefs_of _ rfl (by decide)) (by decide),
      (h.1 c).2 main_arg3 (Pipeline.mem_restRefs_of _ rfl (by decide)) (by decide),
      (h.1 c).2 main_arg4 (Pipeline.mem_restRefs_of _ rfl (by decide)) (by decide),
      (h.1 c).2 main_arg5 (Pipeline.mem_restRefs_of _ rfl (by decide)) (by decide),
      (h.1 c).2 main_arg6 (Pipeline.mem_restRefs_of _ rfl (by decide)) (by decide)⟩, h.2⟩) (run m g)

/-- The frame at either kind of elements. -/
theorem frame (m : Mem F) (g : Dev nD → PrngReg) :
    θ_run (defs (F := F)) (onTc (τ := τ) (main (F := F))) ⟨m, fun _ => 0, g⟩ fun r =>
      (∀ c : Dev nD, Kept m r.2.mem c) ∧ r.2.sem = fun _ => 0 :=
  (θ_run _ _ _).mono (fun _ h => ⟨fun c => (h.1 c).2, h.2⟩) (run_kept m g)

/-- The frame over machine words, of the program as it is named here. -/
def FrameBits : Prop :=
  ∀ (m : Mem Bits) (g : Dev nD → PrngReg), True →
    θ_run (defs (F := Bits)) (onTc (τ := τ) (main (F := Bits))) ⟨m, fun _ => 0, g⟩ fun r =>
      (∀ c : Dev nD, Kept m r.2.mem c) ∧ r.2.sem = fun _ => 0

/-- The two programs have one text. -/
theorem frameBits_eq : FrameBits = @Cert.quiescent_Kernel Cert.Kernel.Gen.facts := by chain_rfl

/-- The idealized kernel ends from any memory, with its arguments as they were and every counter at zero. -/
theorem frame_kernelIdeal : Cert.quiescent_KernelIdeal := fun m g _ => frame m g

/-- The kernel over machine words likewise. -/
theorem frame_kernel : Cert.quiescent_Kernel := frameBits_eq.mp fun m g _ => frame m g

end Cert.KernelIdeal.Attn
end
-- ==== Proof.RefFrame.lean ====
module
public import proofs.«01_k».proof.Defs
public import proofs.«01_k».proof.Proof.Gen.ReferenceIdeal
public import proofs.«01_k».proof.Proof.Gen.ReferenceIdeal.Run
public import Idealize.ShloMosaic.Lib.Quiescent
/-!
# The frame of the reference

The reference is a straight line of array operations, so its run is the run of that line; it has no counters at all.
-/
@[expose] public section
noncomputable section
namespace Cert.ReferenceIdeal.Attn
open Idealize.ShloMosaic Idealize.ShloMosaic.TcCoe
open Idealize.SL.Sem

/-- The reference ends from any memory, with its arguments as they were. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.ReferenceIdeal.Attn
end
-- ==== Proof.Spec.lean ====
module
public import Idealize.ShloMosaic.Lib.Pointwise
public import Idealize.ShloMosaic.Lib.IdealHost
public import Idealize.ShloMosaic.Lib.WordCmp
/-!
# Additive attention over the extended reals

The mathematics that both programs compute: projections, scores, the masked softmax. The one fact about it that is not
a rearrangement is that the softmax's denominator is not zero, when the weights are finite and some column is not
masked.
-/
@[expose] public section
noncomputable section
namespace Cert.Attn
open Idealize.ShloMosaic

/-- Positions, batches, features. -/
abbrev Data : Type := (⟨3, ![512, 4, 64]⟩ : Shape).Idx → EReal
/-- The weights of a projection. -/
abbrev Weights : Type := (⟨2, ![64, 64]⟩ : Shape).Idx → EReal
/-- The weights of the scores. -/
abbrev Scale : Type := (⟨1, ![64]⟩ : Shape).Idx → EReal
/-- The lengths. -/
abbrev Lens : Type := (⟨1, ![4]⟩ : Shape).Idx → BitVec 32

/-- Feature `d` of the projection of position `r` of batch `b`. -/
def proj (X : Data) (W : Weights) (r : Fin 512) (b : Fin 4) (d : Fin 64) : EReal := ∑ k : Fin 64, X (ix3 r b k) * W (ix2 k d)

/-- The score of encoder position `j` for decoder position `i`. -/
def score (E D : Data) (W1 W2 : Weights) (v : Scale) (i : Fin 512) (b : Fin 4) (j : Fin 512) : EReal :=
  ∑ d : Fin 64, Ideal.tanh (proj D W2 i b d + proj E W1 j b d) * v (ix1 d)

/-- Position `n` is below the length `l`. -/
abbrev Below (n : ℕ) (l : BitVec 32) : Prop := (n : ℤ) < l.toInt

/-- The score, minus infinity past the encoder length. -/
def masked (E D : Data) (W1 W2 : Weights) (v : Scale) (el : Lens) (i : Fin 512) (b : Fin 4) (j : Fin 512) : EReal :=
  if Below j.val (el (ix1 b)) then score E D W1 W2 v i b j else ⊥

/-- The largest element of a row. -/
def top (f : Fin 512 → EReal) : EReal := Finset.univ.fold max ⊥ f

/-- The exponentials of a row, its largest element taken off. -/
def expo (f : Fin 512 → EReal) (j : Fin 512) : EReal := Ideal.exp (f j - top f)

/-- The softmax of a row. -/
def soft (f : Fin 512 → EReal) (j : Fin 512) : EReal := Ideal.div (expo f j) (∑ k : Fin 512, expo f k)

/-- The attention coefficient of encoder position `j` for decoder position `i`, zero past the decoder length. -/
def attn (E D : Data) (W1 W2 : Weights) (v : Scale) (el dl : Lens) (i : Fin 512) (b : Fin 4) (j : Fin 512) : EReal :=
  if Below i.val (dl (ix1 b)) then soft (masked E D W1 W2 v el i b) j else 0

/-! ## Lengths -/

/-- A small number as a word, read back. -/
theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The comparison of a position with a length. -/
theorem cmpi_below {n : ℕ} (h : n < 2 ^ 31) (l : BitVec 32) : IntOp.cmpi .slt (BitVec.ofNat 32 n) l = 1#1 ↔ Below n l := by
  rw [show IntOp.cmpi .slt (BitVec.ofNat 32 n) l = BitVec.ofBool (decide ((BitVec.ofNat 32 n).toInt < l.toInt)) from rfl, toInt_ofNat h]
  by_cases hb : (n : ℤ) < l.toInt
  · rw [decide_eq_true hb]; exact ⟨fun _ => hb, fun _ => rfl⟩
  · rw [decide_eq_false hb]; exact ⟨fun h => absurd h (by decide), fun h => absurd h hb⟩

/-! ## The denominator -/

/-- The hyperbolic tangent is a real number everywhere. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- A sum of real numbers is one. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- The scores are real numbers when the weights are. -/
theorem score_real (E D : Data) (W1 W2 : Weights) {v : Scale} (hv : ∀ d, ∃ r : ℝ, v d = (r : EReal)) (i : Fin 512) (b : Fin 4) (j : Fin 512) :
    ∃ r : ℝ, score E D W1 W2 v i b j = (r : EReal) := by
  refine sum_real _ _ fun d _ => ?_
  obtain ⟨x, hx⟩ := tanh_real (proj D W2 i b d + proj E W1 j b d)
  obtain ⟨y, hy⟩ := hv (ix1 d)
  exact ⟨x * y, by rw [hx, hy, EReal.coe_mul]⟩

/-- The exponential is not negative. -/
theorem exp_nonneg (x : EReal) : 0 ≤ Ideal.exp x := by
  induction x using EReal.rec with
  | bot => exact le_refl _
  | coe r => rw [Ideal.exp_coe]; exact_mod_cast (Real.exp_pos r).le
  | top => exact le_top

/-- The largest element is one of the elements, or minus infinity. -/
theorem top_mem (f : Fin 512 → EReal) : top f = ⊥ ∨ ∃ j, f j = top f := by
  have key : ∀ s : Finset (Fin 512), s.fold max ⊥ f = ⊥ ∨ ∃ j, f j = s.fold max ⊥ f := by
    classical
    intro s
    induction s using Finset.induction_on with
    | empty => exact .inl rfl
    | insert a s ha ih =>
      rw [Finset.fold_insert ha]
      rcases le_total (f a) (s.fold max ⊥ f) with h | h
      · rw [max_eq_right h]; exact ih
      · rw [max_eq_left h]; exact .inr ⟨a, rfl⟩
  exact key _

/-- No element is larger. -/
theorem le_top' (f : Fin 512 → EReal) (j : Fin 512) : f j ≤ top f :=
  (Finset.le_fold_max (f j)).mpr (.inr ⟨j, Finset.mem_univ j, le_refl _⟩)

/-- The denominator is not zero when some element is a real number and none is plus infinity. -/
theorem sum_expo_ne_zero {f : Fin 512 → EReal} (h : ∀ j, f j ≠ ⊤) {j₀ : Fin 512} (h₀ : f j₀ ≠ ⊥) : ∑ k : Fin 512, expo f k ≠ 0 := by
  have ht : top f ≠ ⊥ := fun e => h₀ (le_bot_iff.mp (e ▸ le_top' f j₀))
  obtain ⟨j, hj⟩ := (top_mem f).resolve_left ht
  have hone : expo f j = 1 := by
    unfold expo
    rw [hj]
    have h1 : top f ≠ ⊤ := hj ▸ h j
    lift top f to ℝ using ⟨h1, ht⟩ with r
    rw [← EReal.coe_sub, sub_self, Ideal.exp_coe, Real.exp_zero, EReal.coe_one]
  have hle : expo f j ≤ ∑ k : Fin 512, expo f k := Finset.single_le_sum (f := expo f) (fun k _ => exp_nonneg (f k - top f)) (Finset.mem_univ j)
  intro e
  rw [hone, e] at hle
  exact absurd hle (by simp)

/-- The softmax with the reciprocal of the denominator taken first. -/
theorem soft_eq {E D : Data} {W1 W2 : Weights} {v : Scale} {el : Lens} (hv : ∀ d, ∃ r : ℝ, v d = (r : EReal)) (i : Fin 512) (b : Fin 4)
    (hl : 1 ≤ (el (ix1 b)).toInt) (j : Fin 512) :
    expo (masked E D W1 W2 v el i b) j * Ideal.div 1 (∑ k : Fin 512, expo (masked E D W1 W2 v el i b) k)
      = soft (masked E D W1 W2 v el i b) j := by
  refine Ideal.mul_one_div (sum_expo_ne_zero (j₀ := 0) (fun k => ?_) ?_)
  · unfold masked
    split
    · obtain ⟨r, hr⟩ := score_real E D W1 W2 hv i b k
      rw [hr]; exact EReal.coe_ne_top r
    · exact bot_ne_top
  · unfold masked
    obtain ⟨r, hr⟩ := score_real E D W1 W2 hv i b 0
    rw [if_pos (by show (0 : ℤ) < _; omega), hr]
    exact EReal.coe_ne_bot r

end Cert.Attn
end
-- ==== Proof.Bits.lean ====
module
public import proofs.«01_k».proof.Proof.Spec
/-!
# Literals, masks and selections over the extended reals
-/
@[expose] public section
noncomputable section
namespace Cert.Attn
open Idealize.ShloMosaic

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- A set mask as a number. -/
theorem mask_one : FloatOps.uitofp (F := Ideal) .f32 (1#1 : BitVec 1) = (1 : EReal) := by
  show (((1#1 : BitVec 1).toNat : ℝ) : EReal) = 1
  simp

/-- A clear mask as a number. -/
theorem mask_zero : FloatOps.uitofp (F := Ideal) .f32 (0#1 : BitVec 1) = (0 : EReal) := by
  show (((0#1 : BitVec 1).toNat : ℝ) : EReal) = 0
  simp

/-- A bit that is not set is clear. -/
theorem bit_zero {c : BitVec 1} (h : ¬ c = 1#1) : c = 0#1 := by
  revert c; decide

/-- A selection by a set bit. -/
theorem select_one {α : Type} {c : BitVec 1} (h : c = 1#1) (a b : α) : Scalar.select c a b = a := if_pos h

/-- A selection by a clear bit. -/
theorem select_zero {α : Type} {c : BitVec 1} (h : ¬ c = 1#1) (a b : α) : Scalar.select c a b = b := if_neg h

/-- A bit widened to a word is nonzero when the bit is set. -/
theorem widened (c : BitVec 1) : Scalar.cmpi .ne (Scalar.extui c : BitVec 32) 0#32 = 1#1 ↔ c = 1#1 := by
  revert c; decide

end Cert.Attn
end
-- ==== Proof.Pre.lean ====
module
public import proofs.«01_k».proof.Defs
public import proofs.«01_k».proof.Proof.Bits
public import proofs.«01_k».proof.Proof.Gen.Pre_lens_and_weights
/-!
# What the precondition says

Every encoder length is at least one, and every entry of the scale vector is a real number.
-/
@[expose] public section
noncomputable section
namespace Cert.KernelIdeal.Attn
open Idealize.ShloMosaic Idealize.ShloMosaic.TcCoe Idealize.SL.Sem
open Cert.Attn

/-- A number whose absolute value is below infinity is real. -/
theorem real_of_abs_lt {x : EReal} (h : max x (-x) < ⊤) : ∃ r : ℝ, x = (r : EReal) := by
  induction x using EReal.rec with
  | bot => exact absurd h (by simp)
  | coe r => exact ⟨r, rfl⟩
  | top => exact absurd h (by simp)

/-- A comparison that answers yes holds. -/
theorem of_ofBool {p : Prop} [Decidable p] (h : BitVec.ofBool (decide p) = 1#1) : p := by
  by_contra hp
  rw [decide_eq_false hp] at h
  exact absurd h (by decide)

variable {m : (ℓ : Loc nD τ sig) → Buf (Elt Ideal) ℓ}

/-- The encoder lengths. -/
theorem pre_lens (h : Cert.Pre_KernelIdeal_lens_and_weights m) (c : Dev nD) (b : Cert.KernelIdeal.S4.Idx) :
    1 ≤ ((m (c, Proc.devRef .tc main_arg5) : IVec Cert.KernelIdeal.S4 32) b).toInt := by
  have h1 : IntOp.cmpi .sge ((m (c, Proc.devRef .tc main_arg5) : IVec Cert.KernelIdeal.S4 32) b) 1#32 = 1#1 := congrFun (h c).1 b
  exact of_ofBool (p := (1#32 : BitVec 32).toInt ≤ ((m (c, Proc.devRef .tc main_arg5) : IVec Cert.KernelIdeal.S4 32) b).toInt) h1

/-- The scale vector. -/
theorem pre_scale (h : Cert.Pre_KernelIdeal_lens_and_weights m) (c : Dev nD) (d : Cert.KernelIdeal.S64.Idx) :
    ∃ r : ℝ, (m (c, Proc.devRef .tc main_arg4) : FVec Ideal Cert.KernelIdeal.S64 .f32) d = (r : EReal) := by
  have h1 : Ideal.cmp .olt (FloatOps.absf (F := Ideal) (φ := .f32) ((m (c, Proc.devRef .tc main_arg4) : FVec Ideal Cert.KernelIdeal.S64 .f32) d))
      (Ideal.ofBits .f32 0x7F800000#32) = 1#1 := congrFun (h c).2 d
  rw [ofBits_top] at h1
  exact real_of_abs_lt (of_ofBool h1)

end Cert.KernelIdeal.Attn
end
-- ==== Proof.HostTerms.lean ====
module
public import proofs.«01_k».proof.Proof.Data
/-!
# What the host prepares for the launch

The arrays the kernel's windows read, each as a term in the program's arguments.
-/
@[expose] public section
noncomputable section
namespace Cert.KernelIdeal.Attn
open Idealize.ShloMosaic Idealize.ShloMosaic.TcCoe Idealize.ShloMosaic.StableHlo Idealize.SL.Sem
open Gen
variable {F : FTy → Type} [FloatOps F]

/-- The 4×4 identity matrix, as the host builds it. -/
def eye4 : FVec F S4x4 .f32 :=
  uitofp .f32 (cmpi .eq (addi (iotaInDim S4x4 32 0) (broadcastInDim S4x4 ![] bcast_S_S4x4 (constantI S_ 32 0#32))) (iotaInDim S4x4 32 1))

/-- The encoder rows: batch first, four rows to a row of 256. -/
def encHost (x : FVec F S512x4x64 .f32) : FVec F S4x128x256 .f32 :=
  shapeCast S4x128x256 (transpose S4x512x64 [1, 0, 2] x transposes_S512x4x64_S4x512x64_1_0_2) shapeCasts_S4x512x64_S4x128x256

/-- The decoder rows: batch first. -/
def decHost (x : FVec F S512x4x64 .f32) : FVec F S4x512x64 .f32 :=
  transpose S4x512x64 [1, 0, 2] x transposes_S512x4x64_S4x512x64_1_0_2

/-- The encoder weights: four copies on a diagonal of blocks. -/
def w1Host (w : FVec F S64x64 .f32) : FVec F S256x256 .f32 :=
  shapeCast S256x256
    (mulf
      (broadcastInDim S4x64x4x64 ![0, 1, 2, 3] bcast_S4x1x4x1_S4x64x4x64_0_1_2_3 (broadcastInDim S4x1x4x1 ![0, 2] bcast_S4x4_S4x1x4x1_0_2 eye4))
      (broadcastInDim S4x64x4x64 ![0, 1, 2, 3] bcast_S1x64x1x64_S4x64x4x64_0_1_2_3 (broadcastInDim S1x64x1x64 ![1, 3] bcast_S64x64_S1x64x1x64_1_3 w)))
    shapeCasts_S4x64x4x64_S256x256

/-- The decoder weights: four copies side by side. -/
def w2Host (w : FVec F S64x64 .f32) : FVec F S64x256 .f32 :=
  shapeCast S64x256
    (broadcastInDim S1x64x4x64 ![0, 1, 2, 3] bcast_S1x64x1x64_S1x64x4x64_0_1_2_3 (shapeCast S1x64x1x64 w shapeCasts_S64x64_S1x64x1x64))
    shapeCasts_S1x64x4x64_S64x256

/-- The scale vector: four copies on a diagonal of columns. -/
def vHost (v : FVec F S64 .f32) : FVec F S256x4 .bf16 :=
  truncf .bf16
    (shapeCast S256x4
      (mulf
        (broadcastInDim S4x64x4x1 ![0, 1, 2, 3] bcast_S4x1x4x1_S4x64x4x1_0_1_2_3 (broadcastInDim S4x1x4x1 ![0, 2] bcast_S4x4_S4x1x4x1_0_2 eye4))
        (broadcastInDim S4x64x4x1 ![0, 1, 2, 3] bcast_S1x64x1x1_S4x64x4x1_0_1_2_3
          (broadcastInDim S1x64x1x1 ![1, 3] bcast_S64x1_S1x64x1x1_1_3 (shapeCast S64x1 v shapeCasts_S64_S64x1))))
      shapeCasts_S4x64x4x1_S256x4)
    bitsLt_bf16_f32

variable (m : Mem F) (c : Dev nD)

/-- The encoder window at launch. -/
theorem entry_enc : entryMem m c main_v1 = encHost (m (c, Proc.devRef .tc main_arg0)) := by
  unfold entryMem encHost
  simp only [hostss, List.flatten_cons, List.flatten_nil, List.append_nil, List.cons_append, List.nil_append, TRef.binary, TRef.unary, TRef.reshape, TRef.toBuf, TRef.ofBuf, cast_eq]
  after_results_simp <;> rfl

/-- The decoder window at launch. -/
theorem entry_dec : entryMem m c main_v2 = decHost (m (c, Proc.devRef .tc main_arg1)) := by
  unfold entryMem decHost
  simp only [hostss, List.flatten_cons, List.flatten_nil, List.append_nil, List.cons_append, List.nil_append, TRef.binary, TRef.unary, TRef.reshape, TRef.toBuf, TRef.ofBuf, cast_eq]
  after_results_simp <;> rfl

/-- The encoder weights at launch. -/
theorem entry_w1 : entryMem m c main_v9 = w1Host (m (c, Proc.devRef .tc main_arg2)) := by
  unfold entryMem w1Host eye4
  simp only [hostss, List.flatten_cons, List.flatten_nil, List.append_nil, List.cons_append, List.nil_append, TRef.binary, TRef.unary, TRef.reshape, TRef.toBuf, TRef.ofBuf, cast_eq]
  after_results_simp <;> rfl

/-- The decoder weights at launch. -/
theorem entry_w2 : entryMem m c main_v12 = w2Host (m (c, Proc.devRef .tc main_arg3)) := by
  unfold entryMem w2Host
  simp only [hostss, List.flatten_cons, List.flatten_nil, List.append_nil, List.cons_append, List.nil_append, TRef.binary, TRef.unary, TRef.reshape, TRef.toBuf, TRef.ofBuf, cast_eq]
  after_results_simp <;> rfl

/-- The scale vector at launch. -/
theorem entry_v : entryMem m c main_v21 = vHost (m (c, Proc.devRef .tc main_arg4)) := by
  unfold entryMem vHost eye4
  simp only [hostss, List.flatten_cons, List.flatten_nil, List.append_nil, List.cons_append, List.nil_append, TRef.binary, TRef.unary, TRef.reshape, TRef.toBuf, TRef.ofBuf, cast_eq]
  after_results_simp <;> rfl

end Cert.KernelIdeal.Attn
end
-- ==== Proof.PayValue.lean ====
module
public import proofs.«01_k».proof.Proof.HostTerms
public import proofs.«01_k».proof.Proof.Bits
public import Idealize.ShloMosaic.Lib.Pointwise
/-!
# The kernel's steps read at an index, over the extended reals

The arrays the host prepares and the values the body computes, each element as a sum, a selection or a product.
-/
@[expose] public section
noncomputable section
namespace Cert.KernelIdeal.Attn
open Idealize.ShloMosaic Idealize.SL.Sem
open Gen Cert.Attn

/-- One entry of the identity matrix. -/
theorem eye4_at (i j : Fin 4) : eye4 (F := Ideal) (ix2 i j) = if i.val = j.val then (1 : EReal) else 0 := by
  have e : eye4 (F := Ideal) (ix2 i j)
      = FloatOps.uitofp (F := Ideal) .f32 (IntOp.cmpi .eq (IntOp.addi (BitVec.ofNat 32 i.val) 0#32) (BitVec.ofNat 32 j.val)) := by
    pointwise [eye4]
  have hc : ∀ i j : Fin 4, IntOp.cmpi .eq (IntOp.addi (BitVec.ofNat 32 i.val) 0#32) (BitVec.ofNat 32 j.val) = if i.val = j.val then 1#1 else 0#1 := by
    decide
  rw [e, hc]
  by_cases h : i.val = j.val
  · rw [if_pos h, if_pos h, mask_one]
  · rw [if_neg h, if_neg h, mask_zero]

/-- An encoder element. -/
theorem encHost_at (x : FVec Ideal S512x4x64 .f32) (b : Fin 4) (i : Fin 128) (l : Fin 256) :
    encHost (F := Ideal) x (ix3 b i l) = x (ix3 ⟨i.val * 4 + l.val / 64, by omega⟩ b ⟨l.val % 64, by omega⟩) := by
  pointwise [encHost]

/-- A decoder element. -/
theorem decHost_at (x : FVec Ideal S512x4x64 .f32) (b : Fin 4) (i : Fin 512) (l : Fin 64) :
    decHost (F := Ideal) x (ix3 b i l) = x (ix3 i b l) := by
  pointwise [decHost]

/-- An element of the encoder weights: one block on the diagonal, zero off it. -/
theorem w1Host_at (x : FVec Ideal S64x64 .f32) (k l : Fin 256) :
    w1Host (F := Ideal) x (ix2 k l)
      = (if k.val / 64 = l.val / 64 then (1 : EReal) else 0) * x (ix2 ⟨k.val % 64, by omega⟩ ⟨l.val % 64, by omega⟩) := by
  have e : w1Host (F := Ideal) x (ix2 k l)
      = eye4 (F := Ideal) (ix2 ⟨k.val / 64, by omega⟩ ⟨l.val / 64, by omega⟩) * x (ix2 ⟨k.val % 64, by omega⟩ ⟨l.val % 64, by omega⟩) := by
    pointwise [w1Host]
  rw [e, eye4_at]

/-- An element of the decoder weights. -/
theorem w2Host_at (x : FVec Ideal S64x64 .f32) (k : Fin 64) (l : Fin 256) :
    w2Host (F := Ideal) x (ix2 k l) = x (ix2 k ⟨l.val % 64, by omega⟩) := by
  pointwise [w2Host]

/-- An element of the scale: one column on the diagonal, zero off it. -/
theorem vHost_at (x : FVec Ideal S64 .f32) (k : Fin 256) (l : Fin 4) :
    vHost (F := Ideal) x (ix2 k l) = (if k.val / 64 = l.val then (1 : EReal) else 0) * x (ix1 ⟨k.val % 64, by omega⟩) := by
  have e : vHost (F := Ideal) x (ix2 k l) = eye4 (F := Ideal) (ix2 ⟨k.val / 64, by omega⟩ l) * x (ix1 ⟨k.val % 64, by omega⟩) := by
    pointwise [vHost]
  rw [e, eye4_at]

/-- An element of a block of encoder rows times the weights. -/
theorem encPay_at (x : Vec Ideal S1x128x256 .f32) (w : Vec Ideal S256x256 .f32) (i : Fin 128) (l : Fin 256) :
    encPay (F := Ideal) x w (ix2 i l) = ∑ k : Fin 256, x (ix3 0 i k) * w (ix2 k l) := by
  pointwise [encPay]

/-- An element of a block of decoder rows times the weights. -/
theorem decPay_at (x : Vec Ideal S1x128x64 .f32) (w : Vec Ideal S64x256 .f32) (i : Fin 128) (l : Fin 256) :
    decPay (F := Ideal) x w (ix2 i l) = ∑ k : Fin 64, x (ix3 0 i k) * w (ix2 k l) := by
  pointwise [decPay]

/-- A score of a group. -/
theorem grpPay_at (d : Vec Ideal S128x2048 .bf16) (r : Vec Ideal S1x2048 .bf16) (w : Vec Ideal S2048x32 .bf16) (i : Fin 128) (l : Fin 32) :
    grpPay (F := Ideal) d r w (ix2 i l) = ∑ k : Fin 2048, Ideal.tanh (d (ix2 i k) + r (ix2 0 k)) * w (ix2 k l) := by
  pointwise [grpPay]

/-- A masked score. -/
theorem maskPay_at (v5 : BitVec 32) (x : Vec Ideal S128x512 .f32) (i : Fin 128) (l : Fin 512) :
    maskPay (F := Ideal) v5 x (ix2 i l) = if Below l.val v5 then x (ix2 i l) else ⊥ := by
  have e : maskPay (F := Ideal) v5 x (ix2 i l)
      = Scalar.select (IntOp.cmpi .slt (BitVec.ofNat 32 l.val) v5) (x (ix2 i l)) (Ideal.ofBits .f32 0xFF800000#32) := by
    pointwise [maskPay]
  rw [e]
  by_cases h : Below l.val v5
  · rw [if_pos h, select_one ((cmpi_below (by omega) _).mpr h)]
  · rw [if_neg h, select_zero (fun hc => h ((cmpi_below (by omega) _).mp hc)), ofBits_bot]

/-- An exponential. -/
theorem expPay_at (v5 : BitVec 32) (x : Vec Ideal S128x512 .f32) (i : Fin 128) (l : Fin 512) :
    expPay (F := Ideal) v5 x (ix2 i l) = expo (fun k => maskPay (F := Ideal) v5 x (ix2 i k)) l := by
  have e : expPay (F := Ideal) v5 x (ix2 i l)
      = Ideal.exp (maskPay (F := Ideal) v5 x (ix2 i l)
          - Finset.univ.fold max (Ideal.ofBits .f32 0xFF800000#32) fun k : Fin 512 => maskPay (F := Ideal) v5 x (ix2 i k)) := by
    pointwise [expPay]
  rw [e, ofBits_bot]
  rfl

/-- A coefficient: row `t * 128 + i`, zero when not below the decoder length. -/
theorem smPay_at {t : ℕ} (ht : t < 4) (v5 v6 : BitVec 32) (x : Vec Ideal S128x512 .f32) (i : Fin 128) (l : Fin 512) :
    smPay (F := Ideal) (BitVec.ofNat 32 t) v5 v6 x (ix2 i l)
      = if Below (t * 128 + i.val) v6 then
          expPay (F := Ideal) v5 x (ix2 i l) * Ideal.div 1 (∑ k : Fin 512, expPay (F := Ideal) v5 x (ix2 i k))
        else 0 := by
  have e : smPay (F := Ideal) (BitVec.ofNat 32 t) v5 v6 x (ix2 i l)
      = Scalar.select (IntOp.cmpi .slt (IntOp.addi (Scalar.muli (BitVec.ofNat 32 t) 128#32) (BitVec.ofNat 32 i.val)) v6)
          (expPay (F := Ideal) v5 x (ix2 i l) * Ideal.div 1 (∑ k : Fin 512, expPay (F := Ideal) v5 x (ix2 i k))) (0 : EReal) := by
    pointwise [smPay]
  have hw : IntOp.addi (Scalar.muli (BitVec.ofNat 32 t) 128#32) (BitVec.ofNat 32 i.val) = BitVec.ofNat 32 (t * 128 + i.val) := by
    show BitVec.ofNat 32 t * BitVec.ofNat 32 128 + BitVec.ofNat 32 i.val = _
    rw [← BitVec.ofNat_mul, ← BitVec.ofNat_add]
  rw [e, hw]
  by_cases h : Below (t * 128 + i.val) v6
  · rw [if_pos h, select_one ((cmpi_below (by omega) _).mpr h)]
  · rw [if_neg h, select_zero (fun hc => h ((cmpi_below (by omega) _).mp hc))]

/-- Group `k` is scored when its first column is below the encoder length. -/
theorem scored_iff {k : ℕ} (hk : k < 16) (v5 : BitVec 32) : Scored (F := Ideal) v5 k ↔ Below (k * 32) v5 :=
  (widened _).trans (cmpi_below (n := k * 32) (by omega) v5)

/-- A batch is live when the block's first row is below the decoder length. -/
theorem live_iff {t : ℕ} (ht : t < 4) (v6 : BitVec 32) : Live (F := Ideal) (BitVec.ofNat 32 t) v6 ↔ Below (t * 128) v6 := by
  have hw : Scalar.muli (BitVec.ofNat 32 t) 128#32 = BitVec.ofNat 32 (t * 128) := by
    show BitVec.ofNat 32 t * BitVec.ofNat 32 128 = _
    rw [← BitVec.ofNat_mul]
  refine (widened _).trans ?_
  rw [hw]
  exact cmpi_below (n := t * 128) (by omega) v6

end Cert.KernelIdeal.Attn
end
-- ==== Proof.BlockSum.lean ====
module
public import proofs.«01_k».proof.Proof.Spec
/-!
# Sums over one block
-/
@[expose] public section
namespace Cert.Attn

/-- A sum over blocks of 64 in which only block `c` contributes. -/
theorem block_sum {N n : ℕ} (hN : N = n * 64) (f : Fin N → EReal) (c : Fin n) :
    (∑ k : Fin N, if k.val / 64 = c.val then f k else 0) = ∑ d : Fin 64, f ⟨c.val * 64 + d.val, by omega⟩ := by
  subst hN
  rw [← finProdFinEquiv.sum_comp, Fintype.sum_prod_type, Finset.sum_eq_single c]
  · refine Finset.sum_congr rfl fun d _ => ?_
    have h : (finProdFinEquiv (c, d)).val = d.val + 64 * c.val := rfl
    rw [if_pos (by omega)]
    exact congrArg f (Fin.ext (by show d.val + 64 * c.val = c.val * 64 + d.val; omega))
  · intro a _ ha
    refine Finset.sum_eq_zero fun d _ => if_neg ?_
    have h : (finProdFinEquiv (a, d)).val = d.val + 64 * a.val := rfl
    have hne : a.val ≠ c.val := fun h => ha (Fin.ext h)
    omega
  · exact fun h => absurd (Finset.mem_univ c) h

/-- The same with the contribution a product with a weight that is one on the block and zero off it. -/
theorem block_sum_weighted {N n : ℕ} (hN : N = n * 64) (f g : Fin N → EReal) (c : Fin n) :
    (∑ k : Fin N, f k * ((if k.val / 64 = c.val then (1 : EReal) else 0) * g k))
      = ∑ d : Fin 64, f ⟨c.val * 64 + d.val, by omega⟩ * g ⟨c.val * 64 + d.val, by omega⟩ := by
  rw [← block_sum hN (fun k => f k * g k) c]
  refine Finset.sum_congr rfl fun k _ => ?_
  by_cases h : k.val / 64 = c.val
  · rw [if_pos h, if_pos h, one_mul]
  · rw [if_neg h, if_neg h, zero_mul, mul_zero]

end Cert.Attn
end
-- ==== Proof.ScoreValue.lean ====
module
public import proofs.«01_k».proof.Proof.PayValue
public import proofs.«01_k».proof.Proof.BlockSum
/-!
# The kernel's scores

The packed encoder rows, the repeated decoder rows and the block-diagonal scale read at a position, a batch and a
feature; with them a group's scores are the scores of attention.
-/
@[expose] public section
noncomputable section
namespace Cert.KernelIdeal.Attn
open Idealize.ShloMosaic Idealize.SL.Sem
open Gen Cert.Attn

/-- An element at natural coordinates, as an element at an index. -/
theorem at2_of {α : Type} {a b : ℕ} [NeZero a] [NeZero b] (X : (⟨2, ![a, b]⟩ : Shape).Idx → α) {i j : ℕ} (hi : i < a) (hj : j < b) :
    at2 X i j = X (ix2 ⟨i, hi⟩ ⟨j, hj⟩) := by
  unfold at2
  have h0 : Fin.ofNat a i = ⟨i, hi⟩ := Fin.ext (Nat.mod_eq_of_lt hi)
  have h1 : Fin.ofNat b j = ⟨j, hj⟩ := Fin.ext (Nat.mod_eq_of_lt hj)
  rw [h0, h1]

/-- Batch `b` of a three-axis array, read through its window. -/
theorem window3_at {α : Type} {B m n : ℕ} (X : (⟨3, ![B, m, n]⟩ : Shape).Idx → α) {b : ℕ} (hb : b < B)
    (inb : ∀ x, (![b, 0, 0] : Fin 3 → ℕ) x + (![1, m, n] : Fin 3 → ℕ) x ≤ (![B, m, n] : Fin 3 → ℕ) x) (i : Fin m) (l : Fin n) :
    (VecWindow.window (s := ⟨3, ![B, m, n]⟩) X ![b, 0, 0] ![1, m, n] inb : (⟨3, ![1, m, n]⟩ : Shape).Idx → α) (ix3 0 i l) = X (ix3 ⟨b, hb⟩ i l) := by
  refine congrArg X (funext fun x => Fin.ext ?_)
  match x with
  | 0 => show b + 1 * 0 = b; omega
  | 1 => show 0 + 1 * i.val = i.val; omega
  | 2 => show 0 + 1 * l.val = l.val; omega

/-- An entry of a table of lengths. -/
theorem lenAt_eq (T : Vec Ideal S4 .i32) (b : Fin 4) : lenAt (F := Ideal) T b.val = T (ix1 b) := by
  refine congrArg T (funext fun x => Fin.ext ?_)
  match x with
  | 0 => show b.val % 4 + 1 * 0 = b.val; omega

variable (E D : FVec Ideal S512x4x64 .f32) (W1 W2 : FVec Ideal S64x64 .f32) (v : FVec Ideal S64 .f32)

/-- A projected encoder row holds four positions side by side. -/
theorem encRow_at (b : Fin 4) (i : Fin 128) (l : Fin 256) :
    encRow (F := Ideal) (encHost E) (w1Host W1) b.val (ix2 i l)
      = proj E W1 ⟨i.val * 4 + l.val / 64, by omega⟩ b ⟨l.val % 64, by omega⟩ := by
  have hw : ∀ k : Fin 256, (VecWindow.window (s := S4x128x256) (encHost (F := Ideal) E) ![b.val % 4, 0, 0] S1x128x256.size (inb_enc b.val) : Vec Ideal S1x128x256 .f32) (ix3 0 i k)
      = encHost (F := Ideal) E (ix3 b i k) := fun k => by
    refine (window3_at (encHost (F := Ideal) E) (show b.val % 4 < 4 by omega) (inb_enc b.val) i k).trans ?_
    have hb : (⟨b.val % 4, by omega⟩ : Fin 4) = b := Fin.ext (by show b.val % 4 = b.val; omega)
    rw [hb]
  unfold encRow
  rw [encPay_at]
  have h1 : ∀ k : Fin 256, (VecWindow.window (s := S4x128x256) (encHost (F := Ideal) E) ![b.val % 4, 0, 0] S1x128x256.size (inb_enc b.val) : Vec Ideal S1x128x256 .f32) (ix3 0 i k)
        * w1Host (F := Ideal) W1 (ix2 k l)
      = E (ix3 ⟨i.val * 4 + k.val / 64, by omega⟩ b ⟨k.val % 64, by omega⟩)
        * ((if k.val / 64 = (⟨l.val / 64, by omega⟩ : Fin 4).val then (1 : EReal) else 0) * W1 (ix2 ⟨k.val % 64, by omega⟩ ⟨l.val % 64, by omega⟩)) :=
    fun k => by rw [hw, encHost_at, w1Host_at]
  rw [Finset.sum_congr rfl fun k _ => h1 k,
    block_sum_weighted (N := 256) (n := 4) rfl (fun k => E (ix3 ⟨i.val * 4 + k.val / 64, by omega⟩ b ⟨k.val % 64, by omega⟩))
      (fun k => W1 (ix2 ⟨k.val % 64, by omega⟩ ⟨l.val % 64, by omega⟩)) ⟨l.val / 64, by omega⟩]
  unfold proj
  refine Finset.sum_congr rfl fun d _ => ?_
  have e1 : (l.val / 64 * 64 + d.val) / 64 = l.val / 64 := by omega
  have e2 : (l.val / 64 * 64 + d.val) % 64 = d.val := by omega
  simp only [e1, e2]

/-- The packed row of a position: 32 positions side by side. -/
theorem packed_at (b : Fin 4) (j : Fin 512) (d : Fin 64) :
    at2 (packAll (encAll (F := Ideal) (encHost E) (w1Host W1))) (b.val * 16 + j.val / 32) (j.val % 32 * 64 + d.val) = proj E W1 j b d := by
  have q1 : ((b.val * 16 + j.val / 32) * 8 + (j.val % 32 * 64 + d.val) / 256) / 128 = b.val := by omega
  have q2 : ((b.val * 16 + j.val / 32) * 8 + (j.val % 32 * 64 + d.val) / 256) % 128 = j.val / 4 := by omega
  have q3 : (j.val % 32 * 64 + d.val) % 256 = j.val % 4 * 64 + d.val := by omega
  unfold packAll encAll
  rw [at2_mk2 _ (show b.val * 16 + j.val / 32 < 64 by omega) (show j.val % 32 * 64 + d.val < 2048 by omega),
    at2_mk2 _ (show (b.val * 16 + j.val / 32) * 8 + (j.val % 32 * 64 + d.val) / 256 < 512 by omega) (show (j.val % 32 * 64 + d.val) % 256 < 256 by omega),
    q1, q2, q3, at2_of _ (show j.val / 4 < 128 by omega) (show j.val % 4 * 64 + d.val < 256 by omega), encRow_at]
  congr 1
  · exact Fin.ext (by show j.val / 4 * 4 + (j.val % 4 * 64 + d.val) / 64 = j.val; omega)
  · exact Fin.ext (by show (j.val % 4 * 64 + d.val) % 64 = d.val; omega)

/-- The block-diagonal scale. -/
theorem scale_at (k : Fin 2048) (c : Fin 32) :
    wvTo (F := Ideal) (vHost v) 8 (ix2 k c) = (if k.val / 64 = c.val then (1 : EReal) else 0) * v (ix1 ⟨k.val % 64, by omega⟩) := by
  have e : wvTo (F := Ideal) (vHost v) 8 (ix2 k c)
      = if k.val / 256 < 8 ∧ k.val / 256 = c.val / 4 then at2 (vHost (F := Ideal) v) (k.val % 256) (c.val % 4) else Ideal.ofBits .bf16 0x0000#16 := rfl
  rw [e]
  by_cases h : k.val / 256 = c.val / 4
  · rw [if_pos ⟨by omega, h⟩, at2_of _ (show k.val % 256 < 256 by omega) (show c.val % 4 < 4 by omega), vHost_at]
    have hm : (⟨k.val % 256 % 64, by omega⟩ : Fin 64) = ⟨k.val % 64, by omega⟩ := Fin.ext (by show k.val % 256 % 64 = k.val % 64; omega)
    show (if k.val % 256 / 64 = c.val % 4 then (1 : EReal) else 0) * v (ix1 ⟨k.val % 256 % 64, _⟩) = _
    rw [hm]
    by_cases h2 : k.val / 64 = c.val
    · rw [if_pos h2, if_pos (by omega)]
    · rw [if_neg h2, if_neg (by omega)]
  · rw [if_neg (fun hc => h hc.2), if_neg (by omega), zero_mul]
    simp [Ideal.ofBits, Ideal.ieee]

/-- What the tiles of grid point `t` read: the decoder block, the weights, the packed rows, the scale. -/
structure Ready (t : ℕ) (s : State Ideal) : Prop where
  ht : t < 4
  dec : ∀ (b : Fin 4) (i : Fin 128) (k : Fin 64), s.dec (ix3 b i k) = D (ix3 ⟨t * 128 + i.val, by omega⟩ b k)
  w2 : s.w2 = w2Host W2
  epm : s.epm = packAll (encAll (encHost E) (w1Host W1))
  wv : s.wv = wvTo (vHost v) 8

variable {E D W1 W2 v} {t : ℕ} {s : State Ideal}

/-- A projected decoder row, four times side by side. -/
theorem decRow_at (h : Ready E D W1 W2 v t s) (b : Fin 4) (i : Fin 128) (l : Fin 256) :
    decRow s b.val (ix2 i l) = proj D W2 ⟨t * 128 + i.val, by have := h.ht; omega⟩ b ⟨l.val % 64, by omega⟩ := by
  unfold decRow proj
  rw [decPay_at]
  refine Finset.sum_congr rfl fun k _ => ?_
  have hw : (VecWindow.window (s := S4x128x64) s.dec ![b.val % 4, 0, 0] S1x128x64.size (inb_dec b.val) : Vec Ideal S1x128x64 .f32) (ix3 0 i k) = s.dec (ix3 b i k) := by
    refine (window3_at s.dec (show b.val % 4 < 4 by omega) (inb_dec b.val) i k).trans ?_
    have hb : (⟨b.val % 4, by omega⟩ : Fin 4) = b := Fin.ext (by show b.val % 4 = b.val; omega)
    rw [hb]
  rw [hw, h.dec, h.w2, w2Host_at]

/-- A score of a group. -/
theorem grpVal_at (h : Ready E D W1 W2 v t s) (b : Fin 4) (i : Fin 128) (j : Fin 512) :
    at2 (grpVal s b.val (j.val / 32)) i.val (j.val % 32) = score E D W1 W2 v ⟨t * 128 + i.val, by have := h.ht; omega⟩ b j := by
  rw [at2_of _ i.isLt (show j.val % 32 < 32 by omega)]
  unfold grpVal
  rw [grpPay_at]
  have hrow : ∀ k : Fin 2048, (VecWindow.window (s := S64x2048) s.epm ![(b.val * 16 + j.val / 32) % 64, 0] S1x2048.size (inb_epm b.val (j.val / 32)) : Vec Ideal S1x2048 .bf16) (ix2 0 k)
      = at2 s.epm (b.val * 16 + j.val / 32) k.val := fun k => by
    have hk : (b.val * 16 + j.val / 32) % 64 + 0 = b.val * 16 + j.val / 32 := by omega
    refine (at2_of _ (show 0 < 1 by omega) k.isLt).symm.trans ?_
    refine (at2_window (m := 1) (n := 2048) s.epm (inb_epm b.val (j.val / 32)) (by omega) k.isLt).trans ?_
    rw [hk, Nat.zero_add]
  have hrep : ∀ k : Fin 2048, rep (decRow s b.val) (ix2 i k) = decRow s b.val (ix2 i ⟨k.val % 256, by omega⟩) := fun k =>
    at2_of _ i.isLt (show k.val % 256 < 256 by omega)
  have h1 : ∀ k : Fin 2048,
      Ideal.tanh (rep (decRow s b.val) (ix2 i k)
        + (VecWindow.window (s := S64x2048) s.epm ![(b.val * 16 + j.val / 32) % 64, 0] S1x2048.size (inb_epm b.val (j.val / 32)) : Vec Ideal S1x2048 .bf16) (ix2 0 k))
          * s.wv (ix2 k ⟨j.val % 32, by omega⟩)
      = Ideal.tanh (decRow s b.val (ix2 i ⟨k.val % 256, by omega⟩) + at2 s.epm (b.val * 16 + j.val / 32) k.val)
          * ((if k.val / 64 = (⟨j.val % 32, by omega⟩ : Fin 32).val then (1 : EReal) else 0) * v (ix1 ⟨k.val % 64, by omega⟩)) := fun k => by
    rw [hrow, hrep, h.wv, scale_at]
  refine (Finset.sum_congr rfl fun k _ => h1 k).trans ?_
  refine (block_sum_weighted (N := 2048) (n := 32) rfl
    (fun k => Ideal.tanh (decRow s b.val (ix2 i ⟨k.val % 256, by omega⟩) + at2 s.epm (b.val * 16 + j.val / 32) k.val))
    (fun k => v (ix1 ⟨k.val % 64, by omega⟩)) ⟨j.val % 32, by omega⟩).trans ?_
  unfold score
  refine Finset.sum_congr rfl fun d _ => ?_
  have e1 : (⟨(j.val % 32 * 64 + d.val) % 256 % 64, by omega⟩ : Fin 64) = d := Fin.ext (by show (j.val % 32 * 64 + d.val) % 256 % 64 = d.val; omega)
  have e2 : (⟨(j.val % 32 * 64 + d.val) % 64, by omega⟩ : Fin 64) = d := Fin.ext (by show (j.val % 32 * 64 + d.val) % 64 = d.val; omega)
  have e3 : decRow s b.val (ix2 i ⟨(j.val % 32 * 64 + d.val) % 256, by omega⟩) = proj D W2 ⟨t * 128 + i.val, by have := h.ht; omega⟩ b d := by
    rw [decRow_at h]
    exact congrArg _ e1
  have e4 : at2 s.epm (b.val * 16 + j.val / 32) (j.val % 32 * 64 + d.val) = proj E W1 j b d := by rw [h.epm, packed_at]
  show Ideal.tanh (decRow s b.val (ix2 i ⟨(j.val % 32 * 64 + d.val) % 256, _⟩) + at2 s.epm (b.val * 16 + j.val / 32) (j.val % 32 * 64 + d.val))
      * v (ix1 ⟨(j.val % 32 * 64 + d.val) % 64, _⟩) = _
  rw [e2, e3, e4]

end Cert.KernelIdeal.Attn
end
-- ==== Proof.TileValue.lean ====
module
public import proofs.«01_k».proof.Proof.ScoreValue
public import proofs.«01_k».proof.Proof.Run
/-!
# The kernel's result

The masked softmax of a tile is the attention coefficients of its rows; the result array is all of them.
-/
@[expose] public section
noncomputable section
namespace Cert.KernelIdeal.Attn
open Idealize.ShloMosaic Idealize.ShloMosaic.TcCoe Idealize.SL.Sem
open Gen Cert.Attn

variable {E D : FVec Ideal S512x4x64 .f32} {W1 W2 : FVec Ideal S64x64 .f32} {v : FVec Ideal S64 .f32} {el dl : IVec S4 32}
  {t : ℕ} {s : State Ideal}

/-- The masked scores of a tile. -/
theorem maskedTile (h : Ready E D W1 W2 v t s) (b : Fin 4) (i : Fin 128) (j : Fin 512) :
    maskPay (F := Ideal) (el (ix1 b)) (scores s (el (ix1 b)) b.val) (ix2 i j)
      = masked E D W1 W2 v el ⟨t * 128 + i.val, by have := h.ht; omega⟩ b j := by
  rw [maskPay_at]
  unfold masked
  by_cases hb : Below j.val (el (ix1 b))
  · rw [if_pos hb, if_pos hb, ← grpVal_at h]
    have hs : Scored (F := Ideal) (el (ix1 b)) (j.val / 32) := (scored_iff (by omega) _).mpr (by show ((j.val / 32 * 32 : ℕ) : ℤ) < _; change (j.val : ℤ) < _ at hb; omega)
    exact if_pos hs
  · rw [if_neg hb, if_neg hb]

/-- A tile's coefficients. -/
theorem tileVal_at (h : Ready E D W1 W2 v t s) (hel : s.el = el) (hdl : s.dl = dl) (hv : ∀ d, ∃ r : ℝ, v d = (r : EReal))
    (hl : ∀ b, 1 ≤ (el b).toInt) (b : Fin 4) (i : Fin 128) (j : Fin 512) :
    at2 (tileVal (BitVec.ofNat 32 t) s b.val) i.val j.val
      = attn E D W1 W2 v el dl ⟨t * 128 + i.val, by have := h.ht; omega⟩ b j := by
  rw [at2_of _ i.isLt j.isLt]
  unfold tileVal attn
  rw [hel, hdl, lenAt_eq, lenAt_eq]
  by_cases hlive : Live (F := Ideal) (BitVec.ofNat 32 t) (dl (ix1 b))
  · rw [if_pos hlive]
    refine (smPay_at h.ht (el (ix1 b)) (dl (ix1 b)) _ i j).trans ?_
    refine if_congr Iff.rfl ?_ rfl
    have hm : (fun k : Fin 512 => maskPay (F := Ideal) (el (ix1 b)) (scores s (el (ix1 b)) b.val) (ix2 i k))
        = masked E D W1 W2 v el ⟨t * 128 + i.val, by have := h.ht; omega⟩ b := funext fun k => maskedTile h b i k
    have he : ∀ k : Fin 512, expPay (F := Ideal) (el (ix1 b)) (scores s (el (ix1 b)) b.val) (ix2 i k)
        = expo (masked E D W1 W2 v el ⟨t * 128 + i.val, by have := h.ht; omega⟩ b) k := fun k =>
      (expPay_at _ _ i k).trans (congrArg (fun f => expo f k) hm)
    rw [he j, Finset.sum_congr rfl fun k _ => he k]
    exact soft_eq hv _ b (hl (ix1 b)) j
  · rw [if_neg hlive, if_neg]
    · exact Ideal.ofBits_zero_f32
    · intro hc
      refine hlive ((live_iff h.ht _).mpr ?_)
      change ((t * 128 + i.val : ℕ) : ℤ) < _ at hc
      show ((t * 128 : ℕ) : ℤ) < _
      omega

variable (m : Mem Ideal) (c : Dev nD)

/-- What the tiles read at grid point `t`, in terms of the arguments. -/
theorem ready (ht : t < 4) :
    Ready (m (c, Proc.devRef .tc main_arg0)) (m (c, Proc.devRef .tc main_arg1)) (m (c, Proc.devRef .tc main_arg2))
      (m (c, Proc.devRef .tc main_arg3)) (m (c, Proc.devRef .tc main_arg4)) t (stateAt m c t) where
  ht := ht
  dec b i k := by
    show (entryMem m c main_v2 : Vec Ideal S4x512x64 .f32) _ = _
    rw [entry_dec]
    refine Eq.trans ?_ (decHost_at (m (c, Proc.devRef .tc main_arg1)) b ⟨t * 128 + i.val, by omega⟩ k)
    refine congrArg (decHost (F := Ideal) (m (c, Proc.devRef .tc main_arg1))) (funext fun x => Fin.ext ?_)
    match x with
    | 0 => rfl
    | 1 => show t % 4 * 128 + i.val = t * 128 + i.val; omega
    | 2 => rfl
  w2 := entry_w2 m c
  epm := by
    show packAll (encAll (entryMem m c main_v1 : Vec Ideal S4x128x256 .f32) (entryMem m c main_v9 : Vec Ideal S256x256 .f32)) = _
    rw [entry_enc, entry_w1]
  wv := by
    show wvTo (entryMem m c main_v21 : Vec Ideal S256x4 .bf16) 8 = _
    rw [entry_v]

/-- The result: row `i`, column `b * 512 + j` is the attention coefficient of encoder position `j` for decoder position
    `i` in batch `b`. -/
theorem result_at (hv : ∀ d, ∃ r : ℝ, (m (c, Proc.devRef .tc main_arg4) : FVec Ideal S64 .f32) d = (r : EReal))
    (hl : ∀ b, 1 ≤ ((m (c, Proc.devRef .tc main_arg5) : IVec S4 32) b).toInt) (i : Fin 512) (b : Fin 4) (j : Fin 512) :
    result m c (ix2 i ⟨b.val * 512 + j.val, by omega⟩)
      = attn (m (c, Proc.devRef .tc main_arg0)) (m (c, Proc.devRef .tc main_arg1)) (m (c, Proc.devRef .tc main_arg2))
          (m (c, Proc.devRef .tc main_arg3)) (m (c, Proc.devRef .tc main_arg4)) (m (c, Proc.devRef .tc main_arg5))
          (m (c, Proc.devRef .tc main_arg6)) i b j := by
  have e : result m c (ix2 i ⟨b.val * 512 + j.val, by omega⟩) = at2 (outBlk m c (i.val / 128)) (i.val % 128) (b.val * 512 + j.val) := rfl
  have e2 : at2 (outBlk m c (i.val / 128)) (i.val % 128) (b.val * 512 + j.val)
      = at2 (tileVal (BitVec.ofNat 32 (i.val / 128)) (stateAt m c (i.val / 128)) b.val) (i.val % 128) j.val := by
    have h1 : (b.val * 512 + j.val) / 512 = b.val := by omega
    have h2 : (b.val * 512 + j.val) % 512 = j.val := by omega
    unfold outBlk outTo
    rw [at2_mk2 _ (show i.val % 128 < 128 by omega) (show b.val * 512 + j.val < 2048 by omega), if_pos (by omega), h1, h2]
  rw [e, e2]
  have hel : (stateAt m c (i.val / 128)).el = m (c, Proc.devRef .tc main_arg5) := entry_kept m c (r := main_arg5) (by decide)
  have hdl : (stateAt m c (i.val / 128)).dl = m (c, Proc.devRef .tc main_arg6) := entry_kept m c (r := main_arg6) (by decide)
  refine (tileVal_at (ready m c (show i.val / 128 < 4 by omega)) hel hdl hv hl b ⟨i.val % 128, by omega⟩ j).trans ?_
  have hi : (⟨i.val / 128 * 128 + i.val % 128, by omega⟩ : Fin 512) = i := Fin.ext (by show i.val / 128 * 128 + i.val % 128 = i.val; omega)
  exact congrArg (fun r => attn _ _ _ _ _ _ _ r b j) hi

end Cert.KernelIdeal.Attn
end
-- ==== Proof.RefValue.lean ====
module
public import proofs.«01_k».proof.Proof.Bits
public import proofs.«01_k».proof.Proof.Gen.ReferenceIdeal.Read
/-!
# What the reference computes

The reference's result, read at an index: the attention coefficient.
-/
@[expose] public section
noncomputable section
namespace Cert.ReferenceIdeal.Attn
open Idealize.ShloMosaic Idealize.ShloMosaic.TcCoe
open Cert.Attn Cert.ReferenceIdeal.Read
variable (x0 x1 : FVec Ideal S512x4x64 .f32) (x2 x3 : FVec Ideal S64x64 .f32) (x4 : FVec Ideal S64 .f32) (x5 x6 : IVec S4 32)

/-- The encoder mask. -/
theorem encMask (j : Fin 512) (b : Fin 4) : val_main_v5 (F := Ideal) x5 (ix2 j b) = 1#1 ↔ Below j.val (x5 (ix1 b)) := by
  have e : val_main_v5 (F := Ideal) x5 (ix2 j b) = IntOp.cmpi .slt (BitVec.ofNat 32 j.val) (x5 (ix1 b)) := by
    pointwise [val_main_v5, val_main_v4, val_main_v3, val_main_v2, val_main_v1, val_main_v0]
  rw [e]
  exact cmpi_below (by omega) _

/-- The decoder mask. -/
theorem decMask (i : Fin 512) (b : Fin 4) : val_main_v11 (F := Ideal) x6 (ix2 i b) = 1#1 ↔ Below i.val (x6 (ix1 b)) := by
  have e : val_main_v11 (F := Ideal) x6 (ix2 i b) = IntOp.cmpi .slt (BitVec.ofNat 32 i.val) (x6 (ix1 b)) := by
    pointwise [val_main_v11, val_main_v10, val_main_v9, val_main_v8, val_main_v7, val_main_v6]
  rw [e]
  exact cmpi_below (by omega) _

/-- The projected encoder rows, below the encoder length. -/
theorem encProj {r : Fin 512} {b : Fin 4} (h : Below r.val (x5 (ix1 b))) (d : Fin 64) :
    val_main_v16 (F := Ideal) x0 x2 x5 (ix3 r b d) = proj x0 x2 r b d := by
  have e : val_main_v16 (F := Ideal) x0 x2 x5 (ix3 r b d)
      = (∑ k : Fin 64, x0 (ix3 r b k) * x2 (ix2 k d)) * FloatOps.uitofp (F := Ideal) .f32 (val_main_v5 (F := Ideal) x5 (ix2 r b)) := by
    pointwise [val_main_v12, val_main_v16, val_main_v15, val_main_v14, val_main_v13]
  rw [e, (encMask x5 r b).mpr h, mask_one, mul_one]
  rfl

/-- The projected decoder rows, below the decoder length. -/
theorem decProj {i : Fin 512} {b : Fin 4} (h : Below i.val (x6 (ix1 b))) (d : Fin 64) :
    val_main_v21 (F := Ideal) x1 x3 x6 (ix3 i b d) = proj x1 x3 i b d := by
  have e : val_main_v21 (F := Ideal) x1 x3 x6 (ix3 i b d)
      = (∑ k : Fin 64, x1 (ix3 i b k) * x3 (ix2 k d)) * FloatOps.uitofp (F := Ideal) .f32 (val_main_v11 (F := Ideal) x6 (ix2 i b)) := by
    pointwise [val_main_v17, val_main_v21, val_main_v20, val_main_v19, val_main_v18]
  rw [e, (decMask x6 i b).mpr h, mask_one, mul_one]
  rfl

/-- The masked scores of a decoder position below its length. -/
theorem maskedScore {i : Fin 512} {b : Fin 4} (h : Below i.val (x6 (ix1 b))) (j : Fin 512) :
    val_main_v30 (F := Ideal) x0 x1 x2 x3 x4 x5 x6 (ix3 i j b) = masked x0 x1 x2 x3 x4 x5 i b j := by
  have e : val_main_v30 (F := Ideal) x0 x1 x2 x3 x4 x5 x6 (ix3 i j b)
      = Scalar.select (val_main_v5 (F := Ideal) x5 (ix2 j b))
          (∑ d : Fin 64, val_main_v27 (F := Ideal) x0 x1 x2 x3 x5 x6 (ix4 i j b d) * x4 (ix1 d)) (Ideal.ofBits .f32 0xFF800000#32) := by
    pointwise [val_main_v30, val_main_v28, val_main_v29, val_main_call0_v0, val_main_call0_v1, val_main_call0_v2, val_main_cst]
    rfl
  rw [e]
  unfold masked
  by_cases hb : Below j.val (x5 (ix1 b))
  · rw [if_pos hb, select_one ((encMask x5 j b).mpr hb)]
    refine Finset.sum_congr rfl fun d _ => congrArg (· * x4 (ix1 d)) ?_
    have e' : val_main_v27 (F := Ideal) x0 x1 x2 x3 x5 x6 (ix4 i j b d)
        = Ideal.tanh (val_main_v21 (F := Ideal) x1 x3 x6 (ix3 i b d) + val_main_v16 (F := Ideal) x0 x2 x5 (ix3 j b d)) := by
      pointwise [val_main_v27, val_main_v26, val_main_v25, val_main_v24, val_main_v23, val_main_v22]
    rw [e', decProj x1 x3 x6 h, encProj x0 x2 x5 hb]
  · rw [if_neg hb, select_zero (fun hc => hb ((encMask x5 j b).mp hc)), ofBits_bot]

/-- The largest score. -/
theorem largest {i : Fin 512} {b : Fin 4} (h : Below i.val (x6 (ix1 b))) :
    val_main_v33 (F := Ideal) x0 x1 x2 x3 x4 x5 x6 (ix2 i b) = top (masked x0 x1 x2 x3 x4 x5 i b) := by
  have e : val_main_v33 (F := Ideal) x0 x1 x2 x3 x4 x5 x6 (ix2 i b)
      = max (Ideal.ofBits .f32 0xFF800000#32) (Finset.univ.fold max (Ideal.ofBits .f32 0xFF800000#32)
          fun j : Fin 512 => val_main_v30 (F := Ideal) x0 x1 x2 x3 x4 x5 x6 (ix3 i j b)) := by
    pointwise [val_main_v33, val_main_v32, val_main_v31, val_main_cst_1, val_main_cst_0]
  rw [e, ofBits_bot, max_bot_left, funext fun j => maskedScore x0 x1 x2 x3 x4 x5 x6 h j]
  rfl

/-- The exponentials. -/
theorem exponential {i : Fin 512} {b : Fin 4} (h : Below i.val (x6 (ix1 b))) (j : Fin 512) :
    val_main_v37 (F := Ideal) x0 x1 x2 x3 x4 x5 x6 (ix3 i j b) = expo (masked x0 x1 x2 x3 x4 x5 i b) j := by
  have e : val_main_v37 (F := Ideal) x0 x1 x2 x3 x4 x5 x6 (ix3 i j b)
      = Ideal.exp (val_main_v30 (F := Ideal) x0 x1 x2 x3 x4 x5 x6 (ix3 i j b) - val_main_v33 (F := Ideal) x0 x1 x2 x3 x4 x5 x6 (ix2 i b)) := by
    pointwise [val_main_v37, val_main_v36, val_main_v35, val_main_v34]
  rw [e, maskedScore x0 x1 x2 x3 x4 x5 x6 h, largest x0 x1 x2 x3 x4 x5 x6 h]
  rfl

/-- The coefficients. -/
theorem coefficient (i j : Fin 512) (b : Fin 4) :
    val_main_v46 (F := Ideal) x0 x1 x2 x3 x4 x5 x6 (ix3 i b j) = attn x0 x1 x2 x3 x4 x5 x6 i b j := by
  have e : val_main_v46 (F := Ideal) x0 x1 x2 x3 x4 x5 x6 (ix3 i b j)
      = Ideal.div (val_main_v37 (F := Ideal) x0 x1 x2 x3 x4 x5 x6 (ix3 i j b))
          (∑ k : Fin 512, val_main_v37 (F := Ideal) x0 x1 x2 x3 x4 x5 x6 (ix3 i k b))
        * FloatOps.uitofp (F := Ideal) .f32 (val_main_v11 (F := Ideal) x6 (ix2 i b)) := by
    pointwise [val_main_v46, val_main_v45, val_main_v44, val_main_v43, val_main_v42, val_main_v41, val_main_v40, val_main_v39, val_main_v38, val_main_cst_2]
  rw [e]
  unfold attn
  by_cases h : Below i.val (x6 (ix1 b))
  · rw [if_pos h, (decMask x6 i b).mpr h, mask_one, mul_one, funext fun k => exponential x0 x1 x2 x3 x4 x5 x6 h k,
      exponential x0 x1 x2 x3 x4 x5 x6 h j]
    rfl
  · rw [if_neg h, bit_zero (fun hc => h ((decMask x6 i b).mp hc)), mask_zero, mul_zero]

/-- The reference's result. -/
theorem reference_eq (i : Fin 512) (b : Fin 4) (j : Fin 512) :
    val_main_v47 (F := Ideal) x0 x1 x2 x3 x4 x5 x6 (ix2 i ⟨b.val * 512 + j.val, by omega⟩) = attn x0 x1 x2 x3 x4 x5 x6 i b j := by
  rw [← coefficient, val_main_v47_apply]
  refine congrArg _ (funext fun a => Fin.ext ?_)
  match a with
  | 0 => show (i.val * 2048 + (b.val * 512 + j.val)) / 2048 = i.val; omega
  | 1 => show (i.val * 2048 + (b.val * 512 + j.val)) / 512 % 4 = b.val; omega
  | 2 => show (i.val * 2048 + (b.val * 512 + j.val)) % 512 = j.val; omega

end Cert.ReferenceIdeal.Attn
end
-- ==== Proof.Algebraic.lean ====
module
public import proofs.«01_k».proof.Proof.Pre
public import proofs.«01_k».proof.Proof.TileValue
public import proofs.«01_k».proof.Proof.Frames
public import proofs.«01_k».proof.Proof.RefValue
public import proofs.«01_k».proof.Proof.RefFrame
/-!
# The kernel and the reference compute one function

Both results are the attention coefficients of the arguments.
-/
@[expose] public section
noncomputable section
namespace Cert.KernelIdeal.Attn
open Idealize.ShloMosaic Idealize.ShloMosaic.TcCoe Idealize.SL.Sem
open Cert.Attn

/-- The kernel's result is the reference's function of the same arguments. -/
theorem result_eq (m : Mem Ideal) (c : Dev nD) (h : Cert.Pre_KernelIdeal_lens_and_weights m) :
    result m c = Cert.ReferenceIdeal.Read.val_main_v47 (F := Ideal) (m (c, Proc.devRef .tc main_arg0)) (m (c, Proc.devRef .tc main_arg1))
      (m (c, Proc.devRef .tc main_arg2)) (m (c, Proc.devRef .tc main_arg3)) (m (c, Proc.devRef .tc main_arg4))
      (m (c, Proc.devRef .tc main_arg5)) (m (c, Proc.devRef .tc main_arg6)) := by
  refine ext2 fun i hi l hl => ?_
  rw [at2_of _ hi hl, at2_of _ hi hl]
  have hb : l / 512 * 512 + l % 512 = l := by omega
  have e : (⟨l, hl⟩ : Fin 2048) = ⟨(⟨l / 512, by omega⟩ : Fin 4).val * 512 + (⟨l % 512, by omega⟩ : Fin 512).val, by show l / 512 * 512 + l % 512 < 2048; omega⟩ :=
    Fin.ext hb.symm
  rw [e, result_at m c (pre_scale h c) (pre_lens h c)]
  exact (Cert.ReferenceIdeal.Attn.reference_eq _ _ _ _ _ _ _ _ _ _).symm

/-- From the same arguments, within the precondition, the kernel and the reference end with the same result. -/
theorem algebraic : Cert.algebraic_KernelIdeal_ReferenceIdeal_pre_lens_and_weights := by
  intro m g m' g' hpre hargs
  refine ⟨fun c => result m c, (θ_run _ _ _).mono (fun r h c => ⟨(h.1 c).1, (h.1 c).2⟩) (run_kept m g),
    (θ_run _ _ _).mono (fun r h c => ⟨(h c).1.trans ?_, (h c).2⟩) (Cert.ReferenceIdeal.Value.run (F := Ideal) m' g')⟩
  obtain ⟨h0, h1, h2, h3, h4, h5, h6⟩ := hargs c
  refine (Cert.ReferenceIdeal.Read.val_main_v47_eq m' c).trans ?_
  rw [h0, h1, h2, h3, h4, h5, h6]
  exact (result_eq m c hpre).symm

end Cert.KernelIdeal.Attn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lens_and_weights
public import proofs.«01_k».proof.Proof.Frames
public import proofs.«01_k».proof.Proof.RefFrame
public import proofs.«01_k».proof.Proof.Algebraic

@[expose] public section

noncomputable section

namespace Cert.Proof

open Idealize.ShloMosaic Idealize.SL.Sem

/-- Everything claimed: the frames of the three programs, that the two readings of the kernel are one program, and that
    the kernel and the reference compute one function. -/
theorem claim : Cert.Claim :=
  ⟨Cert.Kernel.Gen.facts, Cert.KernelIdeal.Gen.facts, Cert.ReferenceIdeal.Gen.facts, Cert.Pre_lens_and_weights.Gen.facts,
    Cert.KernelIdeal.Attn.frame_kernel,
    Cert.KernelIdeal.Attn.frame_kernelIdeal,
    fun m g _ => Cert.KernelIdeal.Attn.frame_kernelIdeal m g trivial,
    Cert.ReferenceIdeal.Attn.frame_reference,
    fun m g _ => Cert.ReferenceIdeal.Attn.frame_reference m g trivial,
    trivial,
    Cert.KernelIdeal.Attn.algebraic⟩

end Cert.Proof

end
